-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          (∀ i : (⟨2, ![32768, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v14) i = v0 c i)
          ∧ (∀ i : (⟨2, ![32768, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v15) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v15) i = v0 c i)
          ∧ (∀ i : (⟨2, ![32768, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_indices) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S32768x8 : Shape := ⟨2, ![32768, 8]⟩
abbrev S32768x1x64 : Shape := ⟨3, ![32768, 1, 64]⟩
abbrev S32768x8x1 : Shape := ⟨3, ![32768, 8, 1]⟩
abbrev S32768x8x64 : Shape := ⟨3, ![32768, 8, 64]⟩
abbrev S32768x1 : Shape := ⟨2, ![32768, 1]⟩
abbrev S_ : Shape := ⟨0, ![]⟩

class Facts : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  sliceFits_S32768x64_S32768x8 : S32768x64.Slices (fun _ => 0) S32768x8
  bcast_S32768x64_S32768x1x64_0_2 : S32768x64.BroadcastsInDim S32768x1x64 (![0, 2] : Fin 2 → Fin S32768x1x64.rank)
  bcast_S32768x8_S32768x8x1_0_1 : S32768x8.BroadcastsInDim S32768x8x1 (![0, 1] : Fin 2 → Fin S32768x8x1.rank)
  bcast_S32768x1x64_S32768x8x64_0_1_2 : S32768x1x64.BroadcastsInDim S32768x8x64 (![0, 1, 2] : Fin 3 → Fin S32768x8x64.rank)
  bcast_S32768x8x1_S32768x8x64_0_1_2 : S32768x8x1.BroadcastsInDim S32768x8x64 (![0, 1, 2] : Fin 3 → Fin S32768x8x64.rank)
  natLt_1_32 : 1 < 32
  slices_S32768x8_S32768x1_0_0 : S32768x8.Slices ![0, 0] S32768x1
  bcast_S_S32768x1 : S_.BroadcastsInDim S32768x1 (![] : Fin 0 → Fin S32768x1.rank)
  bcast_S32768x1_S32768x8_0_1 : S32768x1.BroadcastsInDim S32768x8 (![0, 1] : Fin 2 → Fin S32768x8.rank)
  reducesTo_S32768x8x64_S32768x8_d2 : S32768x8x64.ReducesTo [2] S32768x8
  h_S_ : 0 < S_.numel
  bcast_S_S32768x8 : S_.BroadcastsInDim S32768x8 (![] : Fin 0 → Fin S32768x8.rank)
  dot_S32768x4096_S4096x64_S32768x64_1_0_0_1_n_n_wf : DotDims.WF S32768x4096 S4096x64 S32768x64 [1] [0] [0] [1] [] []

variable [Facts]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf
def fn {F : FTy → Type} [FloatOps F] (main_arg0 : FVec F S32768x4096 .f32) (main_arg1 : FVec F S64x4096 .f32) (main_arg2 : FVec F S64 .f32) : IVec S32768x8 1 × IVec S32768x8 1 :=
  let main_v0 : FVec F S4096x64 .f32 := (transpose S4096x64 [1, 0] · transposes_S64x4096_S4096x64_1_0) main_arg1
  let main_v1 : FVec F S32768x64 .f32 := (fun l r => Host.dotGeneral dot_S32768x4096_S4096x64_S32768x64_1_0_0_1_n_n none l r) main_arg0 main_v0
  let main_v2 : FVec F S1x64 .f32 := broadcastInDim S1x64 ![1] bcast_S64_S1x64_1 main_arg2
  let main_v3 : FVec F S32768x64 .f32 := broadcastInDim S32768x64 ![0, 1] bcast_S1x64_S32768x64_0_1 main_v2
  let main_v4 : FVec F S32768x64 .f32 := addf main_v1 main_v3
  let main_values : FVec F S32768x8 .f32 := (fun x => (Host.topK S32768x8 1 (FloatOps.cmpfTotal .gt) x sliceFits_S32768x64_S32768x8).1) main_v4
  let main_indices : IVec S32768x8 32 := (fun x => (Host.topK S32768x8 1 (FloatOps.cmpfTotal .gt) x sliceFits_S32768x64_S32768x8).2) main_v4
  let main_v5 : FVec F S32768x1x64 .f32 := broadcastInDim S32768x1x64 ![0, 2] bcast_S32768x64_S32768x1x64_0_2 main_v4
  let main_v6 : FVec F S32768x8x1 .f32 := broadcastInDim S32768x8x1 ![0, 1] bcast_S32768x8_S32768x8x1_0_1 main_values
  let main_v7 : FVec F S32768x8x64 .f32 := broadcastInDim S32768x8x64 ![0, 1, 2] bcast_S32768x1x64_S32768x8x64_0_1_2 main_v5
  let main_v8 : FVec F S32768x8x64 .f32 := broadcastInDim S32768x8x64 ![0, 1, 2] bcast_S32768x8x1_S32768x8x64_0_1_2 main_v6
  let main_v9 : IVec S32768x8x64 1 := cmpf .oeq main_v7 main_v8
  let main_v10 : IVec S32768x8x64 32 := (extui 32 · natLt_1_32) main_v9
  let main_v11 : FVec F S32768x1 .f32 := (extractStridedSlice S32768x1 ![0, 0] · slices_S32768x8_S32768x1_0_0) main_values
  let main_v12 : FVec F S32768x1 .f32 := Host.absf main_v11
  let main_cst : FVec F S_ .f32 := constant S_ .f32 0x7F800000#32
  let main_v13 : FVec F S32768x1 .f32 := broadcastInDim S32768x1 ![] bcast_S_S32768x1 main_cst
  let main_v14 : IVec S32768x1 1 := cmpf .olt main_v12 main_v13
  let main_v15 : IVec S32768x8 1 := broadcastInDim S32768x8 ![0, 1] bcast_S32768x1_S32768x8_0_1 main_v14
  let main_c : IVec S_ 32 := constantI S_ 32 0#32
  let main_v16 : IVec S32768x8 32 := (fun x v => Host.reduce IntOp.addi x v reducesTo_S32768x8x64_S32768x8_d2 h_S_) main_v10 main_c
  let main_c_0 : IVec S_ 32 := constantI S_ 32 1#32
  let main_v17 : IVec S32768x8 32 := broadcastInDim S32768x8 ![] bcast_S_S32768x8 main_c_0
  let main_v18 : IVec S32768x8 1 := cmpi .eq main_v16 main_v17
  (main_v15, main_v18)
-- ==== Kernel.lean ====
abbrev S32768x4096 : Shape := ⟨2, ![32768, 4096]⟩
abbrev S64x4096 : Shape := ⟨2, ![64, 4096]⟩
abbrev S64 : Shape := ⟨1, ![64]⟩
abbrev S64x1 : Shape := ⟨2, ![64, 1]⟩
abbrev S64x8192 : Shape := ⟨2, ![64, 8192]⟩
abbrev S1024x4096 : Shape := ⟨2, ![1024, 4096]⟩
abbrev S64x1024 : Shape := ⟨2, ![64, 1024]⟩
abbrev S8x8192 : Shape := ⟨2, ![8, 8192]⟩
abbrev S64x256 : Shape := ⟨2, ![64, 256]⟩
abbrev S8x256 : Shape := ⟨2, ![8, 256]⟩
abbrev S_ : Shape := ⟨0, ![]⟩
abbrev S1x16 : Shape := ⟨2, ![1, 16]⟩
abbrev S16 : Shape := ⟨1, ![16]⟩
abbrev S8x32768 : Shape := ⟨2, ![8, 32768]⟩
abbrev S32768x8 : Shape := ⟨2, ![32768, 8]⟩

abbrev nBuf : Table → Nat
  | .hbm => 23
  | .local .tc .vmem => 24
  | .local .scVector .vmem => 12
  | _ => 0

abbrev bufTy : (tb : Table) → Fin (nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S64x1, .f32⟩
  | .hbm, ⟨4, _⟩ => ⟨S64x8192, .f32⟩
  | .hbm, ⟨5, _⟩ => ⟨S8x8192, .f32⟩
  | .hbm, ⟨6, _⟩ => ⟨S8x8192, .i32⟩
  | .hbm, ⟨7, _⟩ => ⟨S64x1, .f32⟩
  | .hbm, ⟨8, _⟩ => ⟨S64x8192, .f32⟩
  | .hbm, ⟨9, _⟩ => ⟨S8x8192, .f32⟩
  | .hbm, ⟨10, _⟩ => ⟨S8x8192, .i32⟩
  | .hbm, ⟨11, _⟩ => ⟨S64x1, .f32⟩
  | .hbm, ⟨12, _⟩ => ⟨S64x8192, .f32⟩
  | .hbm, ⟨13, _⟩ => ⟨S8x8192, .f32⟩
  | .hbm, ⟨14, _⟩ => ⟨S8x8192, .i32⟩
  | .hbm, ⟨15, _⟩ => ⟨S64x1, .f32⟩
  | .hbm, ⟨16, _⟩ => ⟨S64x8192, .f32⟩
  | .hbm, ⟨17, _⟩ => ⟨S8x8192, .f32⟩
  | .hbm, ⟨18, _⟩ => ⟨S8x8192, .i32⟩
  | .hbm, ⟨19, _⟩ => ⟨S8x32768, .f32⟩
  | .hbm, ⟨20, _⟩ => ⟨S8x32768, .i32⟩
  | .hbm, ⟨21, _⟩ => ⟨S32768x8, .f32⟩
  | .hbm, ⟨22, _⟩ => ⟨S32768x8, .i32⟩
  | .local .tc .vmem, ⟨0, _⟩ => ⟨S1024x4096, .f32⟩
  | .local .tc .vmem, ⟨1, _⟩ => ⟨S1024x4096, .f32⟩
  | .local .tc .vmem, ⟨2, _⟩ => ⟨S64x4096, .f32⟩
  | .local .tc .vmem, ⟨3, _⟩ => ⟨S64x1, .f32⟩
  | .local .tc .vmem, ⟨4, _⟩ => ⟨S64x1024, .f32⟩
  | .local .tc .vmem, ⟨5, _⟩ => ⟨S64x1024, .f32⟩
  | .local .tc .vmem, ⟨6, _⟩ => ⟨S1024x4096, .f32⟩
  | .local .tc .vmem, ⟨7, _⟩ => ⟨S1024x4096, .f32⟩
  | .local .tc .vmem, ⟨8, _⟩ => ⟨S64x4096, .f32⟩
  | .local .tc .vmem, ⟨9, _⟩ => ⟨S64x1, .f32⟩
  | .local .tc .vmem, ⟨10, _⟩ => ⟨S64x1024, .f32⟩
  | .local .tc .vmem, ⟨11, _⟩ => ⟨S64x1024, .f32⟩
  | .local .tc .vmem, ⟨12, _⟩ => ⟨S1024x4096, .f32⟩
  | .local .tc .vmem, ⟨13, _⟩ => ⟨S1024x4096, .f32⟩
  | .local .tc .vmem, ⟨14, _⟩ => ⟨S64x4096, .f32⟩
  | .local .tc .vmem, ⟨15, _⟩ => ⟨S64x1, .f32⟩
  | .local .tc .vmem, ⟨16, _⟩ => ⟨S64x1024, .f32⟩
  | .local .tc .vmem, ⟨17, _⟩ => ⟨S64x1024, .f32⟩
  | .local .tc .vmem, ⟨18, _⟩ => ⟨S1024x4096, .f32⟩
  | .local .tc .vmem, ⟨19, _⟩ => ⟨S1024x4096, .f32⟩
  | .local .tc .vmem, ⟨20, _⟩ => ⟨S64x4096, .f32⟩
  | .local .tc .vmem, ⟨21, _⟩ => ⟨S64x1, .f32⟩
  | .local .tc .vmem, ⟨22, _⟩ => ⟨S64x1024, .f32⟩
  | .local .tc .vmem, ⟨23, _⟩ => ⟨S64x1024, .f32⟩
  | .local .scVector .vmem, ⟨0, _⟩ => ⟨S64x256, .f32⟩
  | .local .scVector .vmem, ⟨1, _⟩ => ⟨S8x256, .f32⟩
  | .local .scVector .vmem, ⟨2, _⟩ => ⟨S8x256, .i32⟩
  | .local .scVector .vmem, ⟨3, _⟩ => ⟨S64x256, .f32⟩
  | .local .scVector .vmem, ⟨4, _⟩ => ⟨S8x256, .f32⟩
  | .local .scVector .vmem, ⟨5, _⟩ => ⟨S8x256, .i32⟩
  | .local .scVector .vmem, ⟨6, _⟩ => ⟨S64x256, .f32⟩
  | .local .scVector .vmem, ⟨7, _⟩ => ⟨S8x256, .f32⟩
  | .local .scVector .vmem, ⟨8, _⟩ => ⟨S8x256, .i32⟩
  | .local .scVector .vmem, ⟨9, _⟩ => ⟨S64x256, .f32⟩
  | .local .scVector .vmem, ⟨10, _⟩ => ⟨S8x256, .f32⟩
  | .local .scVector .vmem, ⟨11, _⟩ => ⟨S8x256, .i32⟩
  | _, _ => ⟨S32768x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | ⟨33, _⟩ => false
  | ⟨34, _⟩ => false
  | ⟨35, _⟩ => false
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev main_v4_scv : Ref sig .scVector := ⟨.hbm, 8, rfl⟩
abbrev main_v5_0_scv : Ref sig .scVector := ⟨.hbm, 9, rfl⟩
abbrev main_v5_1_scv : Ref sig .scVector := ⟨.hbm, 10, rfl⟩
abbrev main_v7_scv : Ref sig .scVector := ⟨.hbm, 12, rfl⟩
abbrev main_v8_0_scv : Ref sig .scVector := ⟨.hbm, 13, rfl⟩
abbrev main_v8_1_scv : Ref sig .scVector := ⟨.hbm, 14, rfl⟩
abbrev main_v10_scv : Ref sig .scVector := ⟨.hbm, 16, rfl⟩
abbrev main_v11_0_scv : Ref sig .scVector := ⟨.hbm, 17, rfl⟩
abbrev main_v11_1_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg3_1 : Ref sig .tc := ⟨.vmem, 11, rfl⟩
abbrev cc4_stg0_0 : Ref sig .tc := ⟨.vmem, 12, rfl⟩
abbrev cc4_stg0_1 : Ref sig .tc := ⟨.vmem, 13, rfl⟩
abbrev cc4_stg1_0 : Ref sig .tc := ⟨.vmem, 14, rfl⟩
abbrev cc4_stg2_0 : Ref sig .tc := ⟨.vmem, 15, rfl⟩
abbrev cc4_stg3_0 : Ref sig .tc := ⟨.vmem, 16, rfl⟩
abbrev cc4_stg3_1 : Ref sig .tc := ⟨.vmem, 17, rfl⟩
abbrev cc6_stg0_0 : Ref sig .tc := ⟨.vmem, 18, rfl⟩
abbrev cc6_stg0_1 : Ref sig .tc := ⟨.vmem, 19, rfl⟩
abbrev cc6_stg1_0 : Ref sig .tc := ⟨.vmem, 20, rfl⟩
abbrev cc6_stg2_0 : Ref sig .tc := ⟨.vmem, 21, rfl⟩
abbrev cc6_stg3_0 : Ref sig .tc := ⟨.vmem, 22, rfl⟩
abbrev cc6_stg3_1 : Ref sig .tc := ⟨.vmem, 23, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc5_scratch0 : Ref sig .scVector := ⟨.vmem, 6, rfl⟩
abbrev cc5_scratch1 : Ref sig .scVector := ⟨.vmem, 7, rfl⟩
abbrev cc5_scratch2 : Ref sig .scVector := ⟨.vmem, 8, rfl⟩
abbrev cc7_scratch0 : Ref sig .scVector := ⟨.vmem, 9, rfl⟩
abbrev cc7_scratch1 : Ref sig .scVector := ⟨.vmem, 10, rfl⟩
abbrev cc7_scratch2 : Ref sig .scVector := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc4_sem0_0 : DmaSem sig := 18
abbrev cc4_sem0_1 : DmaSem sig := 19
abbrev cc4_sem1_0 : DmaSem sig := 20
abbrev cc4_sem2_0 : DmaSem sig := 21
abbrev cc4_sem3_0 : DmaSem sig := 22
abbrev cc4_sem3_1 : DmaSem sig := 23
abbrev cc6_sem0_0 : DmaSem sig := 27
abbrev cc6_sem0_1 : DmaSem sig := 28
abbrev cc6_sem1_0 : DmaSem sig := 29
abbrev cc6_sem2_0 : DmaSem sig := 30
abbrev cc6_sem3_0 : DmaSem sig := 31
abbrev cc6_sem3_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k1_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k1_off2 (k1_t1 : Fin k1_t1_loop.trips) : Fin 2 → Nat :=
  let c0_i32_3 : BitVec 32 := 0#32
  let v5 : Index := Scalar.indexCast c0_i32_3
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v6 : Index := Scalar.indexCast v4
  ![0, v6.toNat]
def k1_off3 (k1_t1 : Fin k1_t1_loop.trips) : Fin 2 → Nat :=
  let c1_i32_5 : BitVec 32 := 1#32
  let v10 : Index := Scalar.indexCast c1_i32_5
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v11 : Index := Scalar.indexCast v4
  ![1, v11.toNat]
def k1_off4 (k1_t1 : Fin k1_t1_loop.trips) : Fin 2 → Nat :=
  let c2_i32_7 : BitVec 32 := 2#32
  let v15 : Index := Scalar.indexCast c2_i32_7
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v16 : Index := Scalar.indexCast v4
  ![2, v16.toNat]
def k1_off5 (k1_t1 : Fin k1_t1_loop.trips) : Fin 2 → Nat :=
  let c3_i32 : BitVec 32 := 3#32
  let v20 : Index := Scalar.indexCast c3_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v21 : Index := Scalar.indexCast v4
  ![3, v21.toNat]
def k1_off6 (k1_t1 : Fin k1_t1_loop.trips) : Fin 2 → Nat :=
  let c4_i32 : BitVec 32 := 4#32
  let v25 : Index := Scalar.indexCast c4_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v26 : Index := Scalar.indexCast v4
  ![4, v26.toNat]
def k1_off7 (k1_t1 : Fin k1_t1_loop.trips) : Fin 2 → Nat :=
  let c5_i32 : BitVec 32 := 5#32
  let v30 : Index := Scalar.indexCast c5_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v31 : Index := Scalar.indexCast v4
  ![5, v31.toNat]
def k1_off8 (k1_t1 : Fin k1_t1_loop.trips) : Fin 2 → Nat :=
  let c6_i32 : BitVec 32 := 6#32
  let v35 : Index := Scalar.indexCast c6_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v36 : Index := Scalar.indexCast v4
  ![6, v36.toNat]
def k1_off9 (k1_t1 : Fin k1_t1_loop.trips) : Fin 2 → Nat :=
  let c7_i32 : BitVec 32 := 7#32
  let v40 : Index := Scalar.indexCast c7_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v41 : Index := Scalar.indexCast v4
  ![7, v41.toNat]
def k1_off10 (k1_t1 : Fin k1_t1_loop.trips) : Fin 2 → Nat :=
  let c8_i32 : BitVec 32 := 8#32
  let v140 : Index := Scalar.indexCast c8_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v141 : Index := Scalar.indexCast v4
  ![8, v141.toNat]
def k1_off11 (k1_t1 : Fin k1_t1_loop.trips) : Fin 2 → Nat :=
  let c9_i32 : BitVec 32 := 9#32
  let v145 : Index := Scalar.indexCast c9_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v146 : Index := Scalar.indexCast v4
  ![9, v146.toNat]
def k1_off12 (k1_t1 : Fin k1_t1_loop.trips) : Fin 2 → Nat :=
  let c10_i32 : BitVec 32 := 10#32
  let v150 : Index := Scalar.indexCast c10_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v151 : Index := Scalar.indexCast v4
  ![10, v151.toNat]
def k1_off13 (k1_t1 : Fin k1_t1_loop.trips) : Fin 2 → Nat :=
  let c11_i32 : BitVec 32 := 11#32
  let v155 : Index := Scalar.indexCast c11_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v156 : Index := Scalar.indexCast v4
  ![11, v156.toNat]
def k1_off14 (k1_t1 : Fin k1_t1_loop.trips) : Fin 2 → Nat :=
  let c12_i32 : BitVec 32 := 12#32
  let v160 : Index := Scalar.indexCast c12_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v161 : Index := Scalar.indexCast v4
  ![12, v161.toNat]
def k1_off15 (k1_t1 : Fin k1_t1_loop.trips) : Fin 2 → Nat :=
  let c13_i32 : BitVec 32 := 13#32
  let v165 : Index := Scalar.indexCast c13_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v166 : Index := Scalar.indexCast v4
  ![13, v166.toNat]
def k1_off16 (k1_t1 : Fin k1_t1_loop.trips) : Fin 2 → Nat :=
  let c14_i32 : BitVec 32 := 14#32
  let v170 : Index := Scalar.indexCast c14_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v171 : Index := Scalar.indexCast v4
  ![14, v171.toNat]
def k1_off17 (k1_t1 : Fin k1_t1_loop.trips) : Fin 2 → Nat :=
  let c15_i32 : BitVec 32 := 15#32
  let v175 : Index := Scalar.indexCast c15_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v176 : Index := Scalar.indexCast v4
  ![15, v176.toNat]
def k1_off18 (k1_t1 : Fin k1_t1_loop.trips) : Fin 2 → Nat :=
  let c16_i32_22 : BitVec 32 := 16#32
  let v359 : Index := Scalar.indexCast c16_i32_22
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v360 : Index := Scalar.indexCast v4
  ![16, v360.toNat]
def k1_off19 (k1_t1 : Fin k1_t1_loop.trips) : Fin 2 → Nat :=
  let c17_i32 : BitVec 32 := 17#32
  let v364 : Index := Scalar.indexCast c17_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v365 : Index := Scalar.indexCast v4
  ![17, v365.toNat]
def k1_off20 (k1_t1 : Fin k1_t1_loop.trips) : Fin 2 → Nat :=
  let c18_i32 : BitVec 32 := 18#32
  let v369 : Index := Scalar.indexCast c18_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v370 : Index := Scalar.indexCast v4
  ![18, v370.toNat]
def k1_off21 (k1_t1 : Fin k1_t1_loop.trips) : Fin 2 → Nat :=
  let c19_i32 : BitVec 32 := 19#32
  let v374 : Index := Scalar.indexCast c19_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v375 : Index := Scalar.indexCast v4
  ![19, v375.toNat]
def k1_off22 (k1_t1 : Fin k1_t1_loop.trips) : Fin 2 → Nat :=
  let c20_i32 : BitVec 32 := 20#32
  let v379 : Index := Scalar.indexCast c20_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v380 : Index := Scalar.indexCast v4
  ![20, v380.toNat]
def k1_off23 (k1_t1 : Fin k1_t1_loop.trips) : Fin 2 → Nat :=
  let c21_i32 : BitVec 32 := 21#32
  let v384 : Index := Scalar.indexCast c21_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v385 : Index := Scalar.indexCast v4
  ![21, v385.toNat]
def k1_off24 (k1_t1 : Fin k1_t1_loop.trips) : Fin 2 → Nat :=
  let c22_i32 : BitVec 32 := 22#32
  let v389 : Index := Scalar.indexCast c22_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v390 : Index := Scalar.indexCast v4
  ![22, v390.toNat]
def k1_off25 (k1_t1 : Fin k1_t1_loop.trips) : Fin 2 → Nat :=
  let c23_i32 : BitVec 32 := 23#32
  let v394 : Index := Scalar.indexCast c23_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v395 : Index := Scalar.indexCast v4
  ![23, v395.toNat]
def k1_off26 (k1_t1 : Fin k1_t1_loop.trips) : Fin 2 → Nat :=
  let c24_i32 : BitVec 32 := 24#32
  let v578 : Index := Scalar.indexCast c24_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v579 : Index := Scalar.indexCast v4
  ![24, v579.toNat]
def k1_off27 (k1_t1 : Fin k1_t1_loop.trips) : Fin 2 → Nat :=
  let c25_i32 : BitVec 32 := 25#32
  let v583 : Index := Scalar.indexCast c25_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v584 : Index := Scalar.indexCast v4
  ![25, v584.toNat]
def k1_off28 (k1_t1 : Fin k1_t1_loop.trips) : Fin 2 → Nat :=
  let c26_i32 : BitVec 32 := 26#32
  let v588 : Index := Scalar.indexCast c26_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v589 : Index := Scalar.indexCast v4
  ![26, v589.toNat]
def k1_off29 (k1_t1 : Fin k1_t1_loop.trips) : Fin 2 → Nat :=
  let c27_i32 : BitVec 32 := 27#32
  let v593 : Index := Scalar.indexCast c27_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v594 : Index := Scalar.indexCast v4
  ![27, v594.toNat]
def k1_off30 (k1_t1 : Fin k1_t1_loop.trips) : Fin 2 → Nat :=
  let c28_i32 : BitVec 32 := 28#32
  let v598 : Index := Scalar.indexCast c28_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v599 : Index := Scalar.indexCast v4
  ![28, v599.toNat]
def k1_off31 (k1_t1 : Fin k1_t1_loop.trips) : Fin 2 → Nat :=
  let c29_i32 : BitVec 32 := 29#32
  let v603 : Index := Scalar.indexCast c29_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v604 : Index := Scalar.indexCast v4
  ![29, v604.toNat]
def k1_off32 (k1_t1 : Fin k1_t1_loop.trips) : Fin 2 → Nat :=
  let c30_i32 : BitVec 32 := 30#32
  let v608 : Index := Scalar.indexCast c30_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v609 : Index := Scalar.indexCast v4
  ![30, v609.toNat]
def k1_off33 (k1_t1 : Fin k1_t1_loop.trips) : Fin 2 → Nat :=
  let c31_i32 : BitVec 32 := 31#32
  let v613 : Index := Scalar.indexCast c31_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v614 : Index := Scalar.indexCast v4
  ![31, v614.toNat]
def k1_off34 (k1_t1 : Fin k1_t1_loop.trips) : Fin 2 → Nat :=
  let c32_i32 : BitVec 32 := 32#32
  let v797 : Index := Scalar.indexCast c32_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v798 : Index := Scalar.indexCast v4
  ![32, v798.toNat]
def k1_off35 (k1_t1 : Fin k1_t1_loop.trips) : Fin 2 → Nat :=
  let c33_i32 : BitVec 32 := 33#32
  let v802 : Index := Scalar.indexCast c33_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v803 : Index := Scalar.indexCast v4
  ![33, v803.toNat]
def k1_off36 (k1_t1 : Fin k1_t1_loop.trips) : Fin 2 → Nat :=
  let c34_i32 : BitVec 32 := 34#32
  let v807 : Index := Scalar.indexCast c34_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v808 : Index := Scalar.indexCast v4
  ![34, v808.toNat]
def k1_off37 (k1_t1 : Fin k1_t1_loop.trips) : Fin 2 → Nat :=
  let c35_i32 : BitVec 32 := 35#32
  let v812 : Index := Scalar.indexCast c35_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v813 : Index := Scalar.indexCast v4
  ![35, v813.toNat]
def k1_off38 (k1_t1 : Fin k1_t1_loop.trips) : Fin 2 → Nat :=
  let c36_i32 : BitVec 32 := 36#32
  let v817 : Index := Scalar.indexCast c36_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v818 : Index := Scalar.indexCast v4
  ![36, v818.toNat]
def k1_off39 (k1_t1 : Fin k1_t1_loop.trips) : Fin 2 → Nat :=
  let c37_i32 : BitVec 32 := 37#32
  let v822 : Index := Scalar.indexCast c37_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v823 : Index := Scalar.indexCast v4
  ![37, v823.toNat]
def k1_off40 (k1_t1 : Fin k1_t1_loop.trips) : Fin 2 → Nat :=
  let c38_i32 : BitVec 32 := 38#32
  let v827 : Index := Scalar.indexCast c38_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v828 : Index := Scalar.indexCast v4
  ![38, v828.toNat]
def k1_off41 (k1_t1 : Fin k1_t1_loop.trips) : Fin 2 → Nat :=
  let c39_i32 : BitVec 32 := 39#32
  let v832 : Index := Scalar.indexCast c39_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v833 : Index := Scalar.indexCast v4
  ![39, v833.toNat]
def k1_off42 (k1_t1 : Fin k1_t1_loop.trips) : Fin 2 → Nat :=
  let c40_i32 : BitVec 32 := 40#32
  let v1016 : Index := Scalar.indexCast c40_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1017 : Index := Scalar.indexCast v4
  ![40, v1017.toNat]
def k1_off43 (k1_t1 : Fin k1_t1_loop.trips) : Fin 2 → Nat :=
  let c41_i32 : BitVec 32 := 41#32
  let v1021 : Index := Scalar.indexCast c41_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1022 : Index := Scalar.indexCast v4
  ![41, v1022.toNat]
def k1_off44 (k1_t1 : Fin k1_t1_loop.trips) : Fin 2 → Nat :=
  let c42_i32 : BitVec 32 := 42#32
  let v1026 : Index := Scalar.indexCast c42_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1027 : Index := Scalar.indexCast v4
  ![42, v1027.toNat]
def k1_off45 (k1_t1 : Fin k1_t1_loop.trips) : Fin 2 → Nat :=
  let c43_i32 : BitVec 32 := 43#32
  let v1031 : Index := Scalar.indexCast c43_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1032 : Index := Scalar.indexCast v4
  ![43, v1032.toNat]
def k1_off46 (k1_t1 : Fin k1_t1_loop.trips) : Fin 2 → Nat :=
  let c44_i32 : BitVec 32 := 44#32
  let v1036 : Index := Scalar.indexCast c44_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1037 : Index := Scalar.indexCast v4
  ![44, v1037.toNat]
def k1_off47 (k1_t1 : Fin k1_t1_loop.trips) : Fin 2 → Nat :=
  let c45_i32 : BitVec 32 := 45#32
  let v1041 : Index := Scalar.indexCast c45_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1042 : Index := Scalar.indexCast v4
  ![45, v1042.toNat]
def k1_off48 (k1_t1 : Fin k1_t1_loop.trips) : Fin 2 → Nat :=
  let c46_i32 : BitVec 32 := 46#32
  let v1046 : Index := Scalar.indexCast c46_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1047 : Index := Scalar.indexCast v4
  ![46, v1047.toNat]
def k1_off49 (k1_t1 : Fin k1_t1_loop.trips) : Fin 2 → Nat :=
  let c47_i32 : BitVec 32 := 47#32
  let v1051 : Index := Scalar.indexCast c47_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1052 : Index := Scalar.indexCast v4
  ![47, v1052.toNat]
def k1_off50 (k1_t1 : Fin k1_t1_loop.trips) : Fin 2 → Nat :=
  let c48_i32 : BitVec 32 := 48#32
  let v1235 : Index := Scalar.indexCast c48_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1236 : Index := Scalar.indexCast v4
  ![48, v1236.toNat]
def k1_off51 (k1_t1 : Fin k1_t1_loop.trips) : Fin 2 → Nat :=
  let c49_i32 : BitVec 32 := 49#32
  let v1240 : Index := Scalar.indexCast c49_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1241 : Index := Scalar.indexCast v4
  ![49, v1241.toNat]
def k1_off52 (k1_t1 : Fin k1_t1_loop.trips) : Fin 2 → Nat :=
  let c50_i32 : BitVec 32 := 50#32
  let v1245 : Index := Scalar.indexCast c50_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1246 : Index := Scalar.indexCast v4
  ![50, v1246.toNat]
def k1_off53 (k1_t1 : Fin k1_t1_loop.trips) : Fin 2 → Nat :=
  let c51_i32 : BitVec 32 := 51#32
  let v1250 : Index := Scalar.indexCast c51_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1251 : Index := Scalar.indexCast v4
  ![51, v1251.toNat]
def k1_off54 (k1_t1 : Fin k1_t1_loop.trips) : Fin 2 → Nat :=
  let c52_i32 : BitVec 32 := 52#32
  let v1255 : Index := Scalar.indexCast c52_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1256 : Index := Scalar.indexCast v4
  ![52, v1256.toNat]
def k1_off55 (k1_t1 : Fin k1_t1_loop.trips) : Fin 2 → Nat :=
  let c53_i32 : BitVec 32 := 53#32
  let v1260 : Index := Scalar.indexCast c53_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1261 : Index := Scalar.indexCast v4
  ![53, v1261.toNat]
def k1_off56 (k1_t1 : Fin k1_t1_loop.trips) : Fin 2 → Nat :=
  let c54_i32 : BitVec 32 := 54#32
  let v1265 : Index := Scalar.indexCast c54_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1266 : Index := Scalar.indexCast v4
  ![54, v1266.toNat]
def k1_off57 (k1_t1 : Fin k1_t1_loop.trips) : Fin 2 → Nat :=
  let c55_i32 : BitVec 32 := 55#32
  let v1270 : Index := Scalar.indexCast c55_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1271 : Index := Scalar.indexCast v4
  ![55, v1271.toNat]
def k1_off58 (k1_t1 : Fin k1_t1_loop.trips) : Fin 2 → Nat :=
  let c56_i32 : BitVec 32 := 56#32
  let v1454 : Index := Scalar.indexCast c56_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1455 : Index := Scalar.indexCast v4
  ![56, v1455.toNat]
def k1_off59 (k1_t1 : Fin k1_t1_loop.trips) : Fin 2 → Nat :=
  let c57_i32 : BitVec 32 := 57#32
  let v1459 : Index := Scalar.indexCast c57_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1460 : Index := Scalar.indexCast v4
  ![57, v1460.toNat]
def k1_off60 (k1_t1 : Fin k1_t1_loop.trips) : Fin 2 → Nat :=
  let c58_i32 : BitVec 32 := 58#32
  let v1464 : Index := Scalar.indexCast c58_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1465 : Index := Scalar.indexCast v4
  ![58, v1465.toNat]
def k1_off61 (k1_t1 : Fin k1_t1_loop.trips) : Fin 2 → Nat :=
  let c59_i32 : BitVec 32 := 59#32
  let v1469 : Index := Scalar.indexCast c59_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1470 : Index := Scalar.indexCast v4
  ![59, v1470.toNat]
def k1_off62 (k1_t1 : Fin k1_t1_loop.trips) : Fin 2 → Nat :=
  let c60_i32 : BitVec 32 := 60#32
  let v1474 : Index := Scalar.indexCast c60_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1475 : Index := Scalar.indexCast v4
  ![60, v1475.toNat]
def k1_off63 (k1_t1 : Fin k1_t1_loop.trips) : Fin 2 → Nat :=
  let c61_i32 : BitVec 32 := 61#32
  let v1479 : Index := Scalar.indexCast c61_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1480 : Index := Scalar.indexCast v4
  ![61, v1480.toNat]
def k1_off64 (k1_t1 : Fin k1_t1_loop.trips) : Fin 2 → Nat :=
  let c62_i32 : BitVec 32 := 62#32
  let v1484 : Index := Scalar.indexCast c62_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1485 : Index := Scalar.indexCast v4
  ![62, v1485.toNat]
def k1_off65 (k1_t1 : Fin k1_t1_loop.trips) : Fin 2 → Nat :=
  let c63_i32 : BitVec 32 := 63#32
  let v1489 : Index := Scalar.indexCast c63_i32
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1490 : Index := Scalar.indexCast v4
  ![63, v1490.toNat]
def k1_off66 (k1_t1 : Fin k1_t1_loop.trips) : Fin 2 → Nat :=
  let c0_i32_71 : BitVec 32 := 0#32
  let v1699 : Index := Scalar.indexCast c0_i32_71
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1700 : Index := Scalar.indexCast v4
  ![0, v1700.toNat]
def k1_off67 (k1_t1 : Fin k1_t1_loop.trips) : Fin 2 → Nat :=
  let c1_i32_73 : BitVec 32 := 1#32
  let v1710 : Index := Scalar.indexCast c1_i32_73
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1711 : Index := Scalar.indexCast v4
  ![1, v1711.toNat]
def k1_off68 (k1_t1 : Fin k1_t1_loop.trips) : Fin 2 → Nat :=
  let c2_i32_75 : BitVec 32 := 2#32
  let v1721 : Index := Scalar.indexCast c2_i32_75
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1722 : Index := Scalar.indexCast v4
  ![2, v1722.toNat]
def k1_off69 (k1_t1 : Fin k1_t1_loop.trips) : Fin 2 → Nat :=
  let c3_i32_77 : BitVec 32 := 3#32
  let v1732 : Index := Scalar.indexCast c3_i32_77
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1733 : Index := Scalar.indexCast v4
  ![3, v1733.toNat]
def k1_off70 (k1_t1 : Fin k1_t1_loop.trips) : Fin 2 → Nat :=
  let c4_i32_79 : BitVec 32 := 4#32
  let v1743 : Index := Scalar.indexCast c4_i32_79
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1744 : Index := Scalar.indexCast v4
  ![4, v1744.toNat]
def k1_off71 (k1_t1 : Fin k1_t1_loop.trips) : Fin 2 → Nat :=
  let c5_i32_81 : BitVec 32 := 5#32
  let v1754 : Index := Scalar.indexCast c5_i32_81
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1755 : Index := Scalar.indexCast v4
  ![5, v1755.toNat]
def k1_off72 (k1_t1 : Fin k1_t1_loop.trips) : Fin 2 → Nat :=
  let c6_i32_83 : BitVec 32 := 6#32
  let v1765 : Index := Scalar.indexCast c6_i32_83
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1766 : Index := Scalar.indexCast v4
  ![6, v1766.toNat]
def k1_off73 (k1_t1 : Fin k1_t1_loop.trips) : Fin 2 → Nat :=
  let c7_i32_85 : BitVec 32 := 7#32
  let v1776 : Index := Scalar.indexCast c7_i32_85
  let c0_i32_0 : BitVec 32 := 0#32
  let c1_i32 : BitVec 32 := 1#32
  let arg8 : BitVec 32 := Scf.iv c0_i32_0 c1_i32 k1_t1
  let c16_i32_2 : BitVec 32 := 16#32
  let v4 : BitVec 32 := Scalar.muli arg8 c16_i32_2
  let v1777 : Index := Scalar.indexCast v4
  ![7, v1777.toNat]
def k1_off74 (i : grid1.Coords) : Fin 2 → Nat :=
  let c0_i32_2_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
abbrev grid2 : Pipeline.Grid := ⟨1, ![8], ![false]⟩

def cc2_transform_0 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1024x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 16], ![false, false]⟩

def k3_off1 (i : grid3.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k3_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k3_off2 (k3_t1 : Fin k3_t1_loop.trips) : Fin 2 → Nat :=
  let c0_i32_3 : BitVec 32 := 0#32
  let v5 : Index := Scalar.indexCast c0_i32_3
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v6 : Index := Scalar.indexCast v4
  ![0, v6.toNat]
def k3_off3 (k3_t1 : Fin k3_t1_loop.trips) : Fin 2 → Nat :=
  let c1_i32_5 : BitVec 32 := 1#32
  let v10 : Index := Scalar.indexCast c1_i32_5
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v11 : Index := Scalar.indexCast v4
  ![1, v11.toNat]
def k3_off4 (k3_t1 : Fin k3_t1_loop.trips) : Fin 2 → Nat :=
  let c2_i32_7 : BitVec 32 := 2#32
  let v15 : Index := Scalar.indexCast c2_i32_7
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v16 : Index := Scalar.indexCast v4
  ![2, v16.toNat]
def k3_off5 (k3_t1 : Fin k3_t1_loop.trips) : Fin 2 → Nat :=
  let c3_i32 : BitVec 32 := 3#32
  let v20 : Index := Scalar.indexCast c3_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v21 : Index := Scalar.indexCast v4
  ![3, v21.toNat]
def k3_off6 (k3_t1 : Fin k3_t1_loop.trips) : Fin 2 → Nat :=
  let c4_i32 : BitVec 32 := 4#32
  let v25 : Index := Scalar.indexCast c4_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v26 : Index := Scalar.indexCast v4
  ![4, v26.toNat]
def k3_off7 (k3_t1 : Fin k3_t1_loop.trips) : Fin 2 → Nat :=
  let c5_i32 : BitVec 32 := 5#32
  let v30 : Index := Scalar.indexCast c5_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v31 : Index := Scalar.indexCast v4
  ![5, v31.toNat]
def k3_off8 (k3_t1 : Fin k3_t1_loop.trips) : Fin 2 → Nat :=
  let c6_i32 : BitVec 32 := 6#32
  let v35 : Index := Scalar.indexCast c6_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v36 : Index := Scalar.indexCast v4
  ![6, v36.toNat]
def k3_off9 (k3_t1 : Fin k3_t1_loop.trips) : Fin 2 → Nat :=
  let c7_i32 : BitVec 32 := 7#32
  let v40 : Index := Scalar.indexCast c7_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v41 : Index := Scalar.indexCast v4
  ![7, v41.toNat]
def k3_off10 (k3_t1 : Fin k3_t1_loop.trips) : Fin 2 → Nat :=
  let c8_i32 : BitVec 32 := 8#32
  let v140 : Index := Scalar.indexCast c8_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v141 : Index := Scalar.indexCast v4
  ![8, v141.toNat]
def k3_off11 (k3_t1 : Fin k3_t1_loop.trips) : Fin 2 → Nat :=
  let c9_i32 : BitVec 32 := 9#32
  let v145 : Index := Scalar.indexCast c9_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v146 : Index := Scalar.indexCast v4
  ![9, v146.toNat]
def k3_off12 (k3_t1 : Fin k3_t1_loop.trips) : Fin 2 → Nat :=
  let c10_i32 : BitVec 32 := 10#32
  let v150 : Index := Scalar.indexCast c10_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v151 : Index := Scalar.indexCast v4
  ![10, v151.toNat]
def k3_off13 (k3_t1 : Fin k3_t1_loop.trips) : Fin 2 → Nat :=
  let c11_i32 : BitVec 32 := 11#32
  let v155 : Index := Scalar.indexCast c11_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v156 : Index := Scalar.indexCast v4
  ![11, v156.toNat]
def k3_off14 (k3_t1 : Fin k3_t1_loop.trips) : Fin 2 → Nat :=
  let c12_i32 : BitVec 32 := 12#32
  let v160 : Index := Scalar.indexCast c12_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v161 : Index := Scalar.indexCast v4
  ![12, v161.toNat]
def k3_off15 (k3_t1 : Fin k3_t1_loop.trips) : Fin 2 → Nat :=
  let c13_i32 : BitVec 32 := 13#32
  let v165 : Index := Scalar.indexCast c13_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v166 : Index := Scalar.indexCast v4
  ![13, v166.toNat]
def k3_off16 (k3_t1 : Fin k3_t1_loop.trips) : Fin 2 → Nat :=
  let c14_i32 : BitVec 32 := 14#32
  let v170 : Index := Scalar.indexCast c14_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v171 : Index := Scalar.indexCast v4
  ![14, v171.toNat]
def k3_off17 (k3_t1 : Fin k3_t1_loop.trips) : Fin 2 → Nat :=
  let c15_i32 : BitVec 32 := 15#32
  let v175 : Index := Scalar.indexCast c15_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v176 : Index := Scalar.indexCast v4
  ![15, v176.toNat]
def k3_off18 (k3_t1 : Fin k3_t1_loop.trips) : Fin 2 → Nat :=
  let c16_i32_22 : BitVec 32 := 16#32
  let v359 : Index := Scalar.indexCast c16_i32_22
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v360 : Index := Scalar.indexCast v4
  ![16, v360.toNat]
def k3_off19 (k3_t1 : Fin k3_t1_loop.trips) : Fin 2 → Nat :=
  let c17_i32 : BitVec 32 := 17#32
  let v364 : Index := Scalar.indexCast c17_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v365 : Index := Scalar.indexCast v4
  ![17, v365.toNat]
def k3_off20 (k3_t1 : Fin k3_t1_loop.trips) : Fin 2 → Nat :=
  let c18_i32 : BitVec 32 := 18#32
  let v369 : Index := Scalar.indexCast c18_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v370 : Index := Scalar.indexCast v4
  ![18, v370.toNat]
def k3_off21 (k3_t1 : Fin k3_t1_loop.trips) : Fin 2 → Nat :=
  let c19_i32 : BitVec 32 := 19#32
  let v374 : Index := Scalar.indexCast c19_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v375 : Index := Scalar.indexCast v4
  ![19, v375.toNat]
def k3_off22 (k3_t1 : Fin k3_t1_loop.trips) : Fin 2 → Nat :=
  let c20_i32 : BitVec 32 := 20#32
  let v379 : Index := Scalar.indexCast c20_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v380 : Index := Scalar.indexCast v4
  ![20, v380.toNat]
def k3_off23 (k3_t1 : Fin k3_t1_loop.trips) : Fin 2 → Nat :=
  let c21_i32 : BitVec 32 := 21#32
  let v384 : Index := Scalar.indexCast c21_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v385 : Index := Scalar.indexCast v4
  ![21, v385.toNat]
def k3_off24 (k3_t1 : Fin k3_t1_loop.trips) : Fin 2 → Nat :=
  let c22_i32 : BitVec 32 := 22#32
  let v389 : Index := Scalar.indexCast c22_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v390 : Index := Scalar.indexCast v4
  ![22, v390.toNat]
def k3_off25 (k3_t1 : Fin k3_t1_loop.trips) : Fin 2 → Nat :=
  let c23_i32 : BitVec 32 := 23#32
  let v394 : Index := Scalar.indexCast c23_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v395 : Index := Scalar.indexCast v4
  ![23, v395.toNat]
def k3_off26 (k3_t1 : Fin k3_t1_loop.trips) : Fin 2 → Nat :=
  let c24_i32 : BitVec 32 := 24#32
  let v578 : Index := Scalar.indexCast c24_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v579 : Index := Scalar.indexCast v4
  ![24, v579.toNat]
def k3_off27 (k3_t1 : Fin k3_t1_loop.trips) : Fin 2 → Nat :=
  let c25_i32 : BitVec 32 := 25#32
  let v583 : Index := Scalar.indexCast c25_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v584 : Index := Scalar.indexCast v4
  ![25, v584.toNat]
def k3_off28 (k3_t1 : Fin k3_t1_loop.trips) : Fin 2 → Nat :=
  let c26_i32 : BitVec 32 := 26#32
  let v588 : Index := Scalar.indexCast c26_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v589 : Index := Scalar.indexCast v4
  ![26, v589.toNat]
def k3_off29 (k3_t1 : Fin k3_t1_loop.trips) : Fin 2 → Nat :=
  let c27_i32 : BitVec 32 := 27#32
  let v593 : Index := Scalar.indexCast c27_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v594 : Index := Scalar.indexCast v4
  ![27, v594.toNat]
def k3_off30 (k3_t1 : Fin k3_t1_loop.trips) : Fin 2 → Nat :=
  let c28_i32 : BitVec 32 := 28#32
  let v598 : Index := Scalar.indexCast c28_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v599 : Index := Scalar.indexCast v4
  ![28, v599.toNat]
def k3_off31 (k3_t1 : Fin k3_t1_loop.trips) : Fin 2 → Nat :=
  let c29_i32 : BitVec 32 := 29#32
  let v603 : Index := Scalar.indexCast c29_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v604 : Index := Scalar.indexCast v4
  ![29, v604.toNat]
def k3_off32 (k3_t1 : Fin k3_t1_loop.trips) : Fin 2 → Nat :=
  let c30_i32 : BitVec 32 := 30#32
  let v608 : Index := Scalar.indexCast c30_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v609 : Index := Scalar.indexCast v4
  ![30, v609.toNat]
def k3_off33 (k3_t1 : Fin k3_t1_loop.trips) : Fin 2 → Nat :=
  let c31_i32 : BitVec 32 := 31#32
  let v613 : Index := Scalar.indexCast c31_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v614 : Index := Scalar.indexCast v4
  ![31, v614.toNat]
def k3_off34 (k3_t1 : Fin k3_t1_loop.trips) : Fin 2 → Nat :=
  let c32_i32 : BitVec 32 := 32#32
  let v797 : Index := Scalar.indexCast c32_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v798 : Index := Scalar.indexCast v4
  ![32, v798.toNat]
def k3_off35 (k3_t1 : Fin k3_t1_loop.trips) : Fin 2 → Nat :=
  let c33_i32 : BitVec 32 := 33#32
  let v802 : Index := Scalar.indexCast c33_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v803 : Index := Scalar.indexCast v4
  ![33, v803.toNat]
def k3_off36 (k3_t1 : Fin k3_t1_loop.trips) : Fin 2 → Nat :=
  let c34_i32 : BitVec 32 := 34#32
  let v807 : Index := Scalar.indexCast c34_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v808 : Index := Scalar.indexCast v4
  ![34, v808.toNat]
def k3_off37 (k3_t1 : Fin k3_t1_loop.trips) : Fin 2 → Nat :=
  let c35_i32 : BitVec 32 := 35#32
  let v812 : Index := Scalar.indexCast c35_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v813 : Index := Scalar.indexCast v4
  ![35, v813.toNat]
def k3_off38 (k3_t1 : Fin k3_t1_loop.trips) : Fin 2 → Nat :=
  let c36_i32 : BitVec 32 := 36#32
  let v817 : Index := Scalar.indexCast c36_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v818 : Index := Scalar.indexCast v4
  ![36, v818.toNat]
def k3_off39 (k3_t1 : Fin k3_t1_loop.trips) : Fin 2 → Nat :=
  let c37_i32 : BitVec 32 := 37#32
  let v822 : Index := Scalar.indexCast c37_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v823 : Index := Scalar.indexCast v4
  ![37, v823.toNat]
def k3_off40 (k3_t1 : Fin k3_t1_loop.trips) : Fin 2 → Nat :=
  let c38_i32 : BitVec 32 := 38#32
  let v827 : Index := Scalar.indexCast c38_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v828 : Index := Scalar.indexCast v4
  ![38, v828.toNat]
def k3_off41 (k3_t1 : Fin k3_t1_loop.trips) : Fin 2 → Nat :=
  let c39_i32 : BitVec 32 := 39#32
  let v832 : Index := Scalar.indexCast c39_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v833 : Index := Scalar.indexCast v4
  ![39, v833.toNat]
def k3_off42 (k3_t1 : Fin k3_t1_loop.trips) : Fin 2 → Nat :=
  let c40_i32 : BitVec 32 := 40#32
  let v1016 : Index := Scalar.indexCast c40_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1017 : Index := Scalar.indexCast v4
  ![40, v1017.toNat]
def k3_off43 (k3_t1 : Fin k3_t1_loop.trips) : Fin 2 → Nat :=
  let c41_i32 : BitVec 32 := 41#32
  let v1021 : Index := Scalar.indexCast c41_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1022 : Index := Scalar.indexCast v4
  ![41, v1022.toNat]
def k3_off44 (k3_t1 : Fin k3_t1_loop.trips) : Fin 2 → Nat :=
  let c42_i32 : BitVec 32 := 42#32
  let v1026 : Index := Scalar.indexCast c42_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1027 : Index := Scalar.indexCast v4
  ![42, v1027.toNat]
def k3_off45 (k3_t1 : Fin k3_t1_loop.trips) : Fin 2 → Nat :=
  let c43_i32 : BitVec 32 := 43#32
  let v1031 : Index := Scalar.indexCast c43_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1032 : Index := Scalar.indexCast v4
  ![43, v1032.toNat]
def k3_off46 (k3_t1 : Fin k3_t1_loop.trips) : Fin 2 → Nat :=
  let c44_i32 : BitVec 32 := 44#32
  let v1036 : Index := Scalar.indexCast c44_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1037 : Index := Scalar.indexCast v4
  ![44, v1037.toNat]
def k3_off47 (k3_t1 : Fin k3_t1_loop.trips) : Fin 2 → Nat :=
  let c45_i32 : BitVec 32 := 45#32
  let v1041 : Index := Scalar.indexCast c45_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1042 : Index := Scalar.indexCast v4
  ![45, v1042.toNat]
def k3_off48 (k3_t1 : Fin k3_t1_loop.trips) : Fin 2 → Nat :=
  let c46_i32 : BitVec 32 := 46#32
  let v1046 : Index := Scalar.indexCast c46_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1047 : Index := Scalar.indexCast v4
  ![46, v1047.toNat]
def k3_off49 (k3_t1 : Fin k3_t1_loop.trips) : Fin 2 → Nat :=
  let c47_i32 : BitVec 32 := 47#32
  let v1051 : Index := Scalar.indexCast c47_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1052 : Index := Scalar.indexCast v4
  ![47, v1052.toNat]
def k3_off50 (k3_t1 : Fin k3_t1_loop.trips) : Fin 2 → Nat :=
  let c48_i32 : BitVec 32 := 48#32
  let v1235 : Index := Scalar.indexCast c48_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1236 : Index := Scalar.indexCast v4
  ![48, v1236.toNat]
def k3_off51 (k3_t1 : Fin k3_t1_loop.trips) : Fin 2 → Nat :=
  let c49_i32 : BitVec 32 := 49#32
  let v1240 : Index := Scalar.indexCast c49_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1241 : Index := Scalar.indexCast v4
  ![49, v1241.toNat]
def k3_off52 (k3_t1 : Fin k3_t1_loop.trips) : Fin 2 → Nat :=
  let c50_i32 : BitVec 32 := 50#32
  let v1245 : Index := Scalar.indexCast c50_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1246 : Index := Scalar.indexCast v4
  ![50, v1246.toNat]
def k3_off53 (k3_t1 : Fin k3_t1_loop.trips) : Fin 2 → Nat :=
  let c51_i32 : BitVec 32 := 51#32
  let v1250 : Index := Scalar.indexCast c51_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1251 : Index := Scalar.indexCast v4
  ![51, v1251.toNat]
def k3_off54 (k3_t1 : Fin k3_t1_loop.trips) : Fin 2 → Nat :=
  let c52_i32 : BitVec 32 := 52#32
  let v1255 : Index := Scalar.indexCast c52_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1256 : Index := Scalar.indexCast v4
  ![52, v1256.toNat]
def k3_off55 (k3_t1 : Fin k3_t1_loop.trips) : Fin 2 → Nat :=
  let c53_i32 : BitVec 32 := 53#32
  let v1260 : Index := Scalar.indexCast c53_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1261 : Index := Scalar.indexCast v4
  ![53, v1261.toNat]
def k3_off56 (k3_t1 : Fin k3_t1_loop.trips) : Fin 2 → Nat :=
  let c54_i32 : BitVec 32 := 54#32
  let v1265 : Index := Scalar.indexCast c54_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1266 : Index := Scalar.indexCast v4
  ![54, v1266.toNat]
def k3_off57 (k3_t1 : Fin k3_t1_loop.trips) : Fin 2 → Nat :=
  let c55_i32 : BitVec 32 := 55#32
  let v1270 : Index := Scalar.indexCast c55_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1271 : Index := Scalar.indexCast v4
  ![55, v1271.toNat]
def k3_off58 (k3_t1 : Fin k3_t1_loop.trips) : Fin 2 → Nat :=
  let c56_i32 : BitVec 32 := 56#32
  let v1454 : Index := Scalar.indexCast c56_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1455 : Index := Scalar.indexCast v4
  ![56, v1455.toNat]
def k3_off59 (k3_t1 : Fin k3_t1_loop.trips) : Fin 2 → Nat :=
  let c57_i32 : BitVec 32 := 57#32
  let v1459 : Index := Scalar.indexCast c57_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1460 : Index := Scalar.indexCast v4
  ![57, v1460.toNat]
def k3_off60 (k3_t1 : Fin k3_t1_loop.trips) : Fin 2 → Nat :=
  let c58_i32 : BitVec 32 := 58#32
  let v1464 : Index := Scalar.indexCast c58_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1465 : Index := Scalar.indexCast v4
  ![58, v1465.toNat]
def k3_off61 (k3_t1 : Fin k3_t1_loop.trips) : Fin 2 → Nat :=
  let c59_i32 : BitVec 32 := 59#32
  let v1469 : Index := Scalar.indexCast c59_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1470 : Index := Scalar.indexCast v4
  ![59, v1470.toNat]
def k3_off62 (k3_t1 : Fin k3_t1_loop.trips) : Fin 2 → Nat :=
  let c60_i32 : BitVec 32 := 60#32
  let v1474 : Index := Scalar.indexCast c60_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1475 : Index := Scalar.indexCast v4
  ![60, v1475.toNat]
def k3_off63 (k3_t1 : Fin k3_t1_loop.trips) : Fin 2 → Nat :=
  let c61_i32 : BitVec 32 := 61#32
  let v1479 : Index := Scalar.indexCast c61_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1480 : Index := Scalar.indexCast v4
  ![61, v1480.toNat]
def k3_off64 (k3_t1 : Fin k3_t1_loop.trips) : Fin 2 → Nat :=
  let c62_i32 : BitVec 32 := 62#32
  let v1484 : Index := Scalar.indexCast c62_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1485 : Index := Scalar.indexCast v4
  ![62, v1485.toNat]
def k3_off65 (k3_t1 : Fin k3_t1_loop.trips) : Fin 2 → Nat :=
  let c63_i32 : BitVec 32 := 63#32
  let v1489 : Index := Scalar.indexCast c63_i32
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1490 : Index := Scalar.indexCast v4
  ![63, v1490.toNat]
def k3_off66 (k3_t1 : Fin k3_t1_loop.trips) : Fin 2 → Nat :=
  let c0_i32_71 : BitVec 32 := 0#32
  let v1699 : Index := Scalar.indexCast c0_i32_71
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1700 : Index := Scalar.indexCast v4
  ![0, v1700.toNat]
def k3_off67 (k3_t1 : Fin k3_t1_loop.trips) : Fin 2 → Nat :=
  let c1_i32_73 : BitVec 32 := 1#32
  let v1710 : Index := Scalar.indexCast c1_i32_73
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1711 : Index := Scalar.indexCast v4
  ![1, v1711.toNat]
def k3_off68 (k3_t1 : Fin k3_t1_loop.trips) : Fin 2 → Nat :=
  let c2_i32_75 : BitVec 32 := 2#32
  let v1721 : Index := Scalar.indexCast c2_i32_75
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1722 : Index := Scalar.indexCast v4
  ![2, v1722.toNat]
def k3_off69 (k3_t1 : Fin k3_t1_loop.trips) : Fin 2 → Nat :=
  let c3_i32_77 : BitVec 32 := 3#32
  let v1732 : Index := Scalar.indexCast c3_i32_77
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1733 : Index := Scalar.indexCast v4
  ![3, v1733.toNat]
def k3_off70 (k3_t1 : Fin k3_t1_loop.trips) : Fin 2 → Nat :=
  let c4_i32_79 : BitVec 32 := 4#32
  let v1743 : Index := Scalar.indexCast c4_i32_79
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1744 : Index := Scalar.indexCast v4
  ![4, v1744.toNat]
def k3_off71 (k3_t1 : Fin k3_t1_loop.trips) : Fin 2 → Nat :=
  let c5_i32_81 : BitVec 32 := 5#32
  let v1754 : Index := Scalar.indexCast c5_i32_81
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1755 : Index := Scalar.indexCast v4
  ![5, v1755.toNat]
def k3_off72 (k3_t1 : Fin k3_t1_loop.trips) : Fin 2 → Nat :=
  let c6_i32_83 : BitVec 32 := 6#32
  let v1765 : Index := Scalar.indexCast c6_i32_83
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1766 : Index := Scalar.indexCast v4
  ![6, v1766.toNat]
def k3_off73 (k3_t1 : Fin k3_t1_loop.trips) : Fin 2 → Nat :=
  let c7_i32_85 : BitVec 32 := 7#32
  let v1776 : Index := Scalar.indexCast c7_i32_85
  let c0_i32_0 : BitVec 32 := 0#32
  let c1_i32 : BitVec 32 := 1#32
  let arg8 : BitVec 32 := Scf.iv c0_i32_0 c1_i32 k3_t1
  let c16_i32_2 : BitVec 32 := 16#32
  let v4 : BitVec 32 := Scalar.muli arg8 c16_i32_2
  let v1777 : Index := Scalar.indexCast v4
  ![7, v1777.toNat]
def k3_off74 (i : grid3.Coords) : Fin 2 → Nat :=
  let c0_i32_2_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
abbrev grid4 : Pipeline.Grid := ⟨1, ![8], ![false]⟩

def cc4_transform_0 (i : grid4.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S1024x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S64x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![2, 16], ![false, false]⟩

def k5_off1 (i : grid5.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k5_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k5_off2 (k5_t1 : Fin k5_t1_loop.trips) : Fin 2 → Nat :=
  let c0_i32_3 : BitVec 32 := 0#32
  let v5 : Index := Scalar.indexCast c0_i32_3
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v6 : Index := Scalar.indexCast v4
  ![0, v6.toNat]
def k5_off3 (k5_t1 : Fin k5_t1_loop.trips) : Fin 2 → Nat :=
  let c1_i32_5 : BitVec 32 := 1#32
  let v10 : Index := Scalar.indexCast c1_i32_5
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v11 : Index := Scalar.indexCast v4
  ![1, v11.toNat]
def k5_off4 (k5_t1 : Fin k5_t1_loop.trips) : Fin 2 → Nat :=
  let c2_i32_7 : BitVec 32 := 2#32
  let v15 : Index := Scalar.indexCast c2_i32_7
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v16 : Index := Scalar.indexCast v4
  ![2, v16.toNat]
def k5_off5 (k5_t1 : Fin k5_t1_loop.trips) : Fin 2 → Nat :=
  let c3_i32 : BitVec 32 := 3#32
  let v20 : Index := Scalar.indexCast c3_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v21 : Index := Scalar.indexCast v4
  ![3, v21.toNat]
def k5_off6 (k5_t1 : Fin k5_t1_loop.trips) : Fin 2 → Nat :=
  let c4_i32 : BitVec 32 := 4#32
  let v25 : Index := Scalar.indexCast c4_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v26 : Index := Scalar.indexCast v4
  ![4, v26.toNat]
def k5_off7 (k5_t1 : Fin k5_t1_loop.trips) : Fin 2 → Nat :=
  let c5_i32 : BitVec 32 := 5#32
  let v30 : Index := Scalar.indexCast c5_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v31 : Index := Scalar.indexCast v4
  ![5, v31.toNat]
def k5_off8 (k5_t1 : Fin k5_t1_loop.trips) : Fin 2 → Nat :=
  let c6_i32 : BitVec 32 := 6#32
  let v35 : Index := Scalar.indexCast c6_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v36 : Index := Scalar.indexCast v4
  ![6, v36.toNat]
def k5_off9 (k5_t1 : Fin k5_t1_loop.trips) : Fin 2 → Nat :=
  let c7_i32 : BitVec 32 := 7#32
  let v40 : Index := Scalar.indexCast c7_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v41 : Index := Scalar.indexCast v4
  ![7, v41.toNat]
def k5_off10 (k5_t1 : Fin k5_t1_loop.trips) : Fin 2 → Nat :=
  let c8_i32 : BitVec 32 := 8#32
  let v140 : Index := Scalar.indexCast c8_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v141 : Index := Scalar.indexCast v4
  ![8, v141.toNat]
def k5_off11 (k5_t1 : Fin k5_t1_loop.trips) : Fin 2 → Nat :=
  let c9_i32 : BitVec 32 := 9#32
  let v145 : Index := Scalar.indexCast c9_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v146 : Index := Scalar.indexCast v4
  ![9, v146.toNat]
def k5_off12 (k5_t1 : Fin k5_t1_loop.trips) : Fin 2 → Nat :=
  let c10_i32 : BitVec 32 := 10#32
  let v150 : Index := Scalar.indexCast c10_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v151 : Index := Scalar.indexCast v4
  ![10, v151.toNat]
def k5_off13 (k5_t1 : Fin k5_t1_loop.trips) : Fin 2 → Nat :=
  let c11_i32 : BitVec 32 := 11#32
  let v155 : Index := Scalar.indexCast c11_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v156 : Index := Scalar.indexCast v4
  ![11, v156.toNat]
def k5_off14 (k5_t1 : Fin k5_t1_loop.trips) : Fin 2 → Nat :=
  let c12_i32 : BitVec 32 := 12#32
  let v160 : Index := Scalar.indexCast c12_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v161 : Index := Scalar.indexCast v4
  ![12, v161.toNat]
def k5_off15 (k5_t1 : Fin k5_t1_loop.trips) : Fin 2 → Nat :=
  let c13_i32 : BitVec 32 := 13#32
  let v165 : Index := Scalar.indexCast c13_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v166 : Index := Scalar.indexCast v4
  ![13, v166.toNat]
def k5_off16 (k5_t1 : Fin k5_t1_loop.trips) : Fin 2 → Nat :=
  let c14_i32 : BitVec 32 := 14#32
  let v170 : Index := Scalar.indexCast c14_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v171 : Index := Scalar.indexCast v4
  ![14, v171.toNat]
def k5_off17 (k5_t1 : Fin k5_t1_loop.trips) : Fin 2 → Nat :=
  let c15_i32 : BitVec 32 := 15#32
  let v175 : Index := Scalar.indexCast c15_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v176 : Index := Scalar.indexCast v4
  ![15, v176.toNat]
def k5_off18 (k5_t1 : Fin k5_t1_loop.trips) : Fin 2 → Nat :=
  let c16_i32_22 : BitVec 32 := 16#32
  let v359 : Index := Scalar.indexCast c16_i32_22
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v360 : Index := Scalar.indexCast v4
  ![16, v360.toNat]
def k5_off19 (k5_t1 : Fin k5_t1_loop.trips) : Fin 2 → Nat :=
  let c17_i32 : BitVec 32 := 17#32
  let v364 : Index := Scalar.indexCast c17_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v365 : Index := Scalar.indexCast v4
  ![17, v365.toNat]
def k5_off20 (k5_t1 : Fin k5_t1_loop.trips) : Fin 2 → Nat :=
  let c18_i32 : BitVec 32 := 18#32
  let v369 : Index := Scalar.indexCast c18_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v370 : Index := Scalar.indexCast v4
  ![18, v370.toNat]
def k5_off21 (k5_t1 : Fin k5_t1_loop.trips) : Fin 2 → Nat :=
  let c19_i32 : BitVec 32 := 19#32
  let v374 : Index := Scalar.indexCast c19_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v375 : Index := Scalar.indexCast v4
  ![19, v375.toNat]
def k5_off22 (k5_t1 : Fin k5_t1_loop.trips) : Fin 2 → Nat :=
  let c20_i32 : BitVec 32 := 20#32
  let v379 : Index := Scalar.indexCast c20_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v380 : Index := Scalar.indexCast v4
  ![20, v380.toNat]
def k5_off23 (k5_t1 : Fin k5_t1_loop.trips) : Fin 2 → Nat :=
  let c21_i32 : BitVec 32 := 21#32
  let v384 : Index := Scalar.indexCast c21_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v385 : Index := Scalar.indexCast v4
  ![21, v385.toNat]
def k5_off24 (k5_t1 : Fin k5_t1_loop.trips) : Fin 2 → Nat :=
  let c22_i32 : BitVec 32 := 22#32
  let v389 : Index := Scalar.indexCast c22_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v390 : Index := Scalar.indexCast v4
  ![22, v390.toNat]
def k5_off25 (k5_t1 : Fin k5_t1_loop.trips) : Fin 2 → Nat :=
  let c23_i32 : BitVec 32 := 23#32
  let v394 : Index := Scalar.indexCast c23_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v395 : Index := Scalar.indexCast v4
  ![23, v395.toNat]
def k5_off26 (k5_t1 : Fin k5_t1_loop.trips) : Fin 2 → Nat :=
  let c24_i32 : BitVec 32 := 24#32
  let v578 : Index := Scalar.indexCast c24_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v579 : Index := Scalar.indexCast v4
  ![24, v579.toNat]
def k5_off27 (k5_t1 : Fin k5_t1_loop.trips) : Fin 2 → Nat :=
  let c25_i32 : BitVec 32 := 25#32
  let v583 : Index := Scalar.indexCast c25_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v584 : Index := Scalar.indexCast v4
  ![25, v584.toNat]
def k5_off28 (k5_t1 : Fin k5_t1_loop.trips) : Fin 2 → Nat :=
  let c26_i32 : BitVec 32 := 26#32
  let v588 : Index := Scalar.indexCast c26_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v589 : Index := Scalar.indexCast v4
  ![26, v589.toNat]
def k5_off29 (k5_t1 : Fin k5_t1_loop.trips) : Fin 2 → Nat :=
  let c27_i32 : BitVec 32 := 27#32
  let v593 : Index := Scalar.indexCast c27_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v594 : Index := Scalar.indexCast v4
  ![27, v594.toNat]
def k5_off30 (k5_t1 : Fin k5_t1_loop.trips) : Fin 2 → Nat :=
  let c28_i32 : BitVec 32 := 28#32
  let v598 : Index := Scalar.indexCast c28_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v599 : Index := Scalar.indexCast v4
  ![28, v599.toNat]
def k5_off31 (k5_t1 : Fin k5_t1_loop.trips) : Fin 2 → Nat :=
  let c29_i32 : BitVec 32 := 29#32
  let v603 : Index := Scalar.indexCast c29_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v604 : Index := Scalar.indexCast v4
  ![29, v604.toNat]
def k5_off32 (k5_t1 : Fin k5_t1_loop.trips) : Fin 2 → Nat :=
  let c30_i32 : BitVec 32 := 30#32
  let v608 : Index := Scalar.indexCast c30_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v609 : Index := Scalar.indexCast v4
  ![30, v609.toNat]
def k5_off33 (k5_t1 : Fin k5_t1_loop.trips) : Fin 2 → Nat :=
  let c31_i32 : BitVec 32 := 31#32
  let v613 : Index := Scalar.indexCast c31_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v614 : Index := Scalar.indexCast v4
  ![31, v614.toNat]
def k5_off34 (k5_t1 : Fin k5_t1_loop.trips) : Fin 2 → Nat :=
  let c32_i32 : BitVec 32 := 32#32
  let v797 : Index := Scalar.indexCast c32_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v798 : Index := Scalar.indexCast v4
  ![32, v798.toNat]
def k5_off35 (k5_t1 : Fin k5_t1_loop.trips) : Fin 2 → Nat :=
  let c33_i32 : BitVec 32 := 33#32
  let v802 : Index := Scalar.indexCast c33_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v803 : Index := Scalar.indexCast v4
  ![33, v803.toNat]
def k5_off36 (k5_t1 : Fin k5_t1_loop.trips) : Fin 2 → Nat :=
  let c34_i32 : BitVec 32 := 34#32
  let v807 : Index := Scalar.indexCast c34_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v808 : Index := Scalar.indexCast v4
  ![34, v808.toNat]
def k5_off37 (k5_t1 : Fin k5_t1_loop.trips) : Fin 2 → Nat :=
  let c35_i32 : BitVec 32 := 35#32
  let v812 : Index := Scalar.indexCast c35_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v813 : Index := Scalar.indexCast v4
  ![35, v813.toNat]
def k5_off38 (k5_t1 : Fin k5_t1_loop.trips) : Fin 2 → Nat :=
  let c36_i32 : BitVec 32 := 36#32
  let v817 : Index := Scalar.indexCast c36_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v818 : Index := Scalar.indexCast v4
  ![36, v818.toNat]
def k5_off39 (k5_t1 : Fin k5_t1_loop.trips) : Fin 2 → Nat :=
  let c37_i32 : BitVec 32 := 37#32
  let v822 : Index := Scalar.indexCast c37_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v823 : Index := Scalar.indexCast v4
  ![37, v823.toNat]
def k5_off40 (k5_t1 : Fin k5_t1_loop.trips) : Fin 2 → Nat :=
  let c38_i32 : BitVec 32 := 38#32
  let v827 : Index := Scalar.indexCast c38_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v828 : Index := Scalar.indexCast v4
  ![38, v828.toNat]
def k5_off41 (k5_t1 : Fin k5_t1_loop.trips) : Fin 2 → Nat :=
  let c39_i32 : BitVec 32 := 39#32
  let v832 : Index := Scalar.indexCast c39_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v833 : Index := Scalar.indexCast v4
  ![39, v833.toNat]
def k5_off42 (k5_t1 : Fin k5_t1_loop.trips) : Fin 2 → Nat :=
  let c40_i32 : BitVec 32 := 40#32
  let v1016 : Index := Scalar.indexCast c40_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1017 : Index := Scalar.indexCast v4
  ![40, v1017.toNat]
def k5_off43 (k5_t1 : Fin k5_t1_loop.trips) : Fin 2 → Nat :=
  let c41_i32 : BitVec 32 := 41#32
  let v1021 : Index := Scalar.indexCast c41_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1022 : Index := Scalar.indexCast v4
  ![41, v1022.toNat]
def k5_off44 (k5_t1 : Fin k5_t1_loop.trips) : Fin 2 → Nat :=
  let c42_i32 : BitVec 32 := 42#32
  let v1026 : Index := Scalar.indexCast c42_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1027 : Index := Scalar.indexCast v4
  ![42, v1027.toNat]
def k5_off45 (k5_t1 : Fin k5_t1_loop.trips) : Fin 2 → Nat :=
  let c43_i32 : BitVec 32 := 43#32
  let v1031 : Index := Scalar.indexCast c43_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1032 : Index := Scalar.indexCast v4
  ![43, v1032.toNat]
def k5_off46 (k5_t1 : Fin k5_t1_loop.trips) : Fin 2 → Nat :=
  let c44_i32 : BitVec 32 := 44#32
  let v1036 : Index := Scalar.indexCast c44_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1037 : Index := Scalar.indexCast v4
  ![44, v1037.toNat]
def k5_off47 (k5_t1 : Fin k5_t1_loop.trips) : Fin 2 → Nat :=
  let c45_i32 : BitVec 32 := 45#32
  let v1041 : Index := Scalar.indexCast c45_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1042 : Index := Scalar.indexCast v4
  ![45, v1042.toNat]
def k5_off48 (k5_t1 : Fin k5_t1_loop.trips) : Fin 2 → Nat :=
  let c46_i32 : BitVec 32 := 46#32
  let v1046 : Index := Scalar.indexCast c46_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1047 : Index := Scalar.indexCast v4
  ![46, v1047.toNat]
def k5_off49 (k5_t1 : Fin k5_t1_loop.trips) : Fin 2 → Nat :=
  let c47_i32 : BitVec 32 := 47#32
  let v1051 : Index := Scalar.indexCast c47_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1052 : Index := Scalar.indexCast v4
  ![47, v1052.toNat]
def k5_off50 (k5_t1 : Fin k5_t1_loop.trips) : Fin 2 → Nat :=
  let c48_i32 : BitVec 32 := 48#32
  let v1235 : Index := Scalar.indexCast c48_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1236 : Index := Scalar.indexCast v4
  ![48, v1236.toNat]
def k5_off51 (k5_t1 : Fin k5_t1_loop.trips) : Fin 2 → Nat :=
  let c49_i32 : BitVec 32 := 49#32
  let v1240 : Index := Scalar.indexCast c49_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1241 : Index := Scalar.indexCast v4
  ![49, v1241.toNat]
def k5_off52 (k5_t1 : Fin k5_t1_loop.trips) : Fin 2 → Nat :=
  let c50_i32 : BitVec 32 := 50#32
  let v1245 : Index := Scalar.indexCast c50_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1246 : Index := Scalar.indexCast v4
  ![50, v1246.toNat]
def k5_off53 (k5_t1 : Fin k5_t1_loop.trips) : Fin 2 → Nat :=
  let c51_i32 : BitVec 32 := 51#32
  let v1250 : Index := Scalar.indexCast c51_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1251 : Index := Scalar.indexCast v4
  ![51, v1251.toNat]
def k5_off54 (k5_t1 : Fin k5_t1_loop.trips) : Fin 2 → Nat :=
  let c52_i32 : BitVec 32 := 52#32
  let v1255 : Index := Scalar.indexCast c52_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1256 : Index := Scalar.indexCast v4
  ![52, v1256.toNat]
def k5_off55 (k5_t1 : Fin k5_t1_loop.trips) : Fin 2 → Nat :=
  let c53_i32 : BitVec 32 := 53#32
  let v1260 : Index := Scalar.indexCast c53_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1261 : Index := Scalar.indexCast v4
  ![53, v1261.toNat]
def k5_off56 (k5_t1 : Fin k5_t1_loop.trips) : Fin 2 → Nat :=
  let c54_i32 : BitVec 32 := 54#32
  let v1265 : Index := Scalar.indexCast c54_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1266 : Index := Scalar.indexCast v4
  ![54, v1266.toNat]
def k5_off57 (k5_t1 : Fin k5_t1_loop.trips) : Fin 2 → Nat :=
  let c55_i32 : BitVec 32 := 55#32
  let v1270 : Index := Scalar.indexCast c55_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1271 : Index := Scalar.indexCast v4
  ![55, v1271.toNat]
def k5_off58 (k5_t1 : Fin k5_t1_loop.trips) : Fin 2 → Nat :=
  let c56_i32 : BitVec 32 := 56#32
  let v1454 : Index := Scalar.indexCast c56_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1455 : Index := Scalar.indexCast v4
  ![56, v1455.toNat]
def k5_off59 (k5_t1 : Fin k5_t1_loop.trips) : Fin 2 → Nat :=
  let c57_i32 : BitVec 32 := 57#32
  let v1459 : Index := Scalar.indexCast c57_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1460 : Index := Scalar.indexCast v4
  ![57, v1460.toNat]
def k5_off60 (k5_t1 : Fin k5_t1_loop.trips) : Fin 2 → Nat :=
  let c58_i32 : BitVec 32 := 58#32
  let v1464 : Index := Scalar.indexCast c58_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1465 : Index := Scalar.indexCast v4
  ![58, v1465.toNat]
def k5_off61 (k5_t1 : Fin k5_t1_loop.trips) : Fin 2 → Nat :=
  let c59_i32 : BitVec 32 := 59#32
  let v1469 : Index := Scalar.indexCast c59_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1470 : Index := Scalar.indexCast v4
  ![59, v1470.toNat]
def k5_off62 (k5_t1 : Fin k5_t1_loop.trips) : Fin 2 → Nat :=
  let c60_i32 : BitVec 32 := 60#32
  let v1474 : Index := Scalar.indexCast c60_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1475 : Index := Scalar.indexCast v4
  ![60, v1475.toNat]
def k5_off63 (k5_t1 : Fin k5_t1_loop.trips) : Fin 2 → Nat :=
  let c61_i32 : BitVec 32 := 61#32
  let v1479 : Index := Scalar.indexCast c61_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1480 : Index := Scalar.indexCast v4
  ![61, v1480.toNat]
def k5_off64 (k5_t1 : Fin k5_t1_loop.trips) : Fin 2 → Nat :=
  let c62_i32 : BitVec 32 := 62#32
  let v1484 : Index := Scalar.indexCast c62_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1485 : Index := Scalar.indexCast v4
  ![62, v1485.toNat]
def k5_off65 (k5_t1 : Fin k5_t1_loop.trips) : Fin 2 → Nat :=
  let c63_i32 : BitVec 32 := 63#32
  let v1489 : Index := Scalar.indexCast c63_i32
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1490 : Index := Scalar.indexCast v4
  ![63, v1490.toNat]
def k5_off66 (k5_t1 : Fin k5_t1_loop.trips) : Fin 2 → Nat :=
  let c0_i32_71 : BitVec 32 := 0#32
  let v1699 : Index := Scalar.indexCast c0_i32_71
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1700 : Index := Scalar.indexCast v4
  ![0, v1700.toNat]
def k5_off67 (k5_t1 : Fin k5_t1_loop.trips) : Fin 2 → Nat :=
  let c1_i32_73 : BitVec 32 := 1#32
  let v1710 : Index := Scalar.indexCast c1_i32_73
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1711 : Index := Scalar.indexCast v4
  ![1, v1711.toNat]
def k5_off68 (k5_t1 : Fin k5_t1_loop.trips) : Fin 2 → Nat :=
  let c2_i32_75 : BitVec 32 := 2#32
  let v1721 : Index := Scalar.indexCast c2_i32_75
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1722 : Index := Scalar.indexCast v4
  ![2, v1722.toNat]
def k5_off69 (k5_t1 : Fin k5_t1_loop.trips) : Fin 2 → Nat :=
  let c3_i32_77 : BitVec 32 := 3#32
  let v1732 : Index := Scalar.indexCast c3_i32_77
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1733 : Index := Scalar.indexCast v4
  ![3, v1733.toNat]
def k5_off70 (k5_t1 : Fin k5_t1_loop.trips) : Fin 2 → Nat :=
  let c4_i32_79 : BitVec 32 := 4#32
  let v1743 : Index := Scalar.indexCast c4_i32_79
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1744 : Index := Scalar.indexCast v4
  ![4, v1744.toNat]
def k5_off71 (k5_t1 : Fin k5_t1_loop.trips) : Fin 2 → Nat :=
  let c5_i32_81 : BitVec 32 := 5#32
  let v1754 : Index := Scalar.indexCast c5_i32_81
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1755 : Index := Scalar.indexCast v4
  ![5, v1755.toNat]
def k5_off72 (k5_t1 : Fin k5_t1_loop.trips) : Fin 2 → Nat :=
  let c6_i32_83 : BitVec 32 := 6#32
  let v1765 : Index := Scalar.indexCast c6_i32_83
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1766 : Index := Scalar.indexCast v4
  ![6, v1766.toNat]
def k5_off73 (k5_t1 : Fin k5_t1_loop.trips) : Fin 2 → Nat :=
  let c7_i32_85 : BitVec 32 := 7#32
  let v1776 : Index := Scalar.indexCast c7_i32_85
  let c0_i32_0 : BitVec 32 := 0#32
  let c1_i32 : BitVec 32 := 1#32
  let arg8 : BitVec 32 := Scf.iv c0_i32_0 c1_i32 k5_t1
  let c16_i32_2 : BitVec 32 := 16#32
  let v4 : BitVec 32 := Scalar.muli arg8 c16_i32_2
  let v1777 : Index := Scalar.indexCast v4
  ![7, v1777.toNat]
def k5_off74 (i : grid5.Coords) : Fin 2 → Nat :=
  let c0_i32_2_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
abbrev grid6 : Pipeline.Grid := ⟨1, ![8], ![false]⟩

def cc6_transform_0 (i : grid6.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S1024x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S64x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![2, 16], ![false, false]⟩

def k7_off1 (i : grid7.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k7_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k7_off2 (k7_t1 : Fin k7_t1_loop.trips) : Fin 2 → Nat :=
  let c0_i32_3 : BitVec 32 := 0#32
  let v5 : Index := Scalar.indexCast c0_i32_3
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v6 : Index := Scalar.indexCast v4
  ![0, v6.toNat]
def k7_off3 (k7_t1 : Fin k7_t1_loop.trips) : Fin 2 → Nat :=
  let c1_i32_5 : BitVec 32 := 1#32
  let v10 : Index := Scalar.indexCast c1_i32_5
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v11 : Index := Scalar.indexCast v4
  ![1, v11.toNat]
def k7_off4 (k7_t1 : Fin k7_t1_loop.trips) : Fin 2 → Nat :=
  let c2_i32_7 : BitVec 32 := 2#32
  let v15 : Index := Scalar.indexCast c2_i32_7
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v16 : Index := Scalar.indexCast v4
  ![2, v16.toNat]
def k7_off5 (k7_t1 : Fin k7_t1_loop.trips) : Fin 2 → Nat :=
  let c3_i32 : BitVec 32 := 3#32
  let v20 : Index := Scalar.indexCast c3_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v21 : Index := Scalar.indexCast v4
  ![3, v21.toNat]
def k7_off6 (k7_t1 : Fin k7_t1_loop.trips) : Fin 2 → Nat :=
  let c4_i32 : BitVec 32 := 4#32
  let v25 : Index := Scalar.indexCast c4_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v26 : Index := Scalar.indexCast v4
  ![4, v26.toNat]
def k7_off7 (k7_t1 : Fin k7_t1_loop.trips) : Fin 2 → Nat :=
  let c5_i32 : BitVec 32 := 5#32
  let v30 : Index := Scalar.indexCast c5_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v31 : Index := Scalar.indexCast v4
  ![5, v31.toNat]
def k7_off8 (k7_t1 : Fin k7_t1_loop.trips) : Fin 2 → Nat :=
  let c6_i32 : BitVec 32 := 6#32
  let v35 : Index := Scalar.indexCast c6_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v36 : Index := Scalar.indexCast v4
  ![6, v36.toNat]
def k7_off9 (k7_t1 : Fin k7_t1_loop.trips) : Fin 2 → Nat :=
  let c7_i32 : BitVec 32 := 7#32
  let v40 : Index := Scalar.indexCast c7_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v41 : Index := Scalar.indexCast v4
  ![7, v41.toNat]
def k7_off10 (k7_t1 : Fin k7_t1_loop.trips) : Fin 2 → Nat :=
  let c8_i32 : BitVec 32 := 8#32
  let v140 : Index := Scalar.indexCast c8_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v141 : Index := Scalar.indexCast v4
  ![8, v141.toNat]
def k7_off11 (k7_t1 : Fin k7_t1_loop.trips) : Fin 2 → Nat :=
  let c9_i32 : BitVec 32 := 9#32
  let v145 : Index := Scalar.indexCast c9_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v146 : Index := Scalar.indexCast v4
  ![9, v146.toNat]
def k7_off12 (k7_t1 : Fin k7_t1_loop.trips) : Fin 2 → Nat :=
  let c10_i32 : BitVec 32 := 10#32
  let v150 : Index := Scalar.indexCast c10_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v151 : Index := Scalar.indexCast v4
  ![10, v151.toNat]
def k7_off13 (k7_t1 : Fin k7_t1_loop.trips) : Fin 2 → Nat :=
  let c11_i32 : BitVec 32 := 11#32
  let v155 : Index := Scalar.indexCast c11_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v156 : Index := Scalar.indexCast v4
  ![11, v156.toNat]
def k7_off14 (k7_t1 : Fin k7_t1_loop.trips) : Fin 2 → Nat :=
  let c12_i32 : BitVec 32 := 12#32
  let v160 : Index := Scalar.indexCast c12_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v161 : Index := Scalar.indexCast v4
  ![12, v161.toNat]
def k7_off15 (k7_t1 : Fin k7_t1_loop.trips) : Fin 2 → Nat :=
  let c13_i32 : BitVec 32 := 13#32
  let v165 : Index := Scalar.indexCast c13_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v166 : Index := Scalar.indexCast v4
  ![13, v166.toNat]
def k7_off16 (k7_t1 : Fin k7_t1_loop.trips) : Fin 2 → Nat :=
  let c14_i32 : BitVec 32 := 14#32
  let v170 : Index := Scalar.indexCast c14_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v171 : Index := Scalar.indexCast v4
  ![14, v171.toNat]
def k7_off17 (k7_t1 : Fin k7_t1_loop.trips) : Fin 2 → Nat :=
  let c15_i32 : BitVec 32 := 15#32
  let v175 : Index := Scalar.indexCast c15_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v176 : Index := Scalar.indexCast v4
  ![15, v176.toNat]
def k7_off18 (k7_t1 : Fin k7_t1_loop.trips) : Fin 2 → Nat :=
  let c16_i32_22 : BitVec 32 := 16#32
  let v359 : Index := Scalar.indexCast c16_i32_22
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v360 : Index := Scalar.indexCast v4
  ![16, v360.toNat]
def k7_off19 (k7_t1 : Fin k7_t1_loop.trips) : Fin 2 → Nat :=
  let c17_i32 : BitVec 32 := 17#32
  let v364 : Index := Scalar.indexCast c17_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v365 : Index := Scalar.indexCast v4
  ![17, v365.toNat]
def k7_off20 (k7_t1 : Fin k7_t1_loop.trips) : Fin 2 → Nat :=
  let c18_i32 : BitVec 32 := 18#32
  let v369 : Index := Scalar.indexCast c18_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v370 : Index := Scalar.indexCast v4
  ![18, v370.toNat]
def k7_off21 (k7_t1 : Fin k7_t1_loop.trips) : Fin 2 → Nat :=
  let c19_i32 : BitVec 32 := 19#32
  let v374 : Index := Scalar.indexCast c19_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v375 : Index := Scalar.indexCast v4
  ![19, v375.toNat]
def k7_off22 (k7_t1 : Fin k7_t1_loop.trips) : Fin 2 → Nat :=
  let c20_i32 : BitVec 32 := 20#32
  let v379 : Index := Scalar.indexCast c20_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v380 : Index := Scalar.indexCast v4
  ![20, v380.toNat]
def k7_off23 (k7_t1 : Fin k7_t1_loop.trips) : Fin 2 → Nat :=
  let c21_i32 : BitVec 32 := 21#32
  let v384 : Index := Scalar.indexCast c21_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v385 : Index := Scalar.indexCast v4
  ![21, v385.toNat]
def k7_off24 (k7_t1 : Fin k7_t1_loop.trips) : Fin 2 → Nat :=
  let c22_i32 : BitVec 32 := 22#32
  let v389 : Index := Scalar.indexCast c22_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v390 : Index := Scalar.indexCast v4
  ![22, v390.toNat]
def k7_off25 (k7_t1 : Fin k7_t1_loop.trips) : Fin 2 → Nat :=
  let c23_i32 : BitVec 32 := 23#32
  let v394 : Index := Scalar.indexCast c23_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v395 : Index := Scalar.indexCast v4
  ![23, v395.toNat]
def k7_off26 (k7_t1 : Fin k7_t1_loop.trips) : Fin 2 → Nat :=
  let c24_i32 : BitVec 32 := 24#32
  let v578 : Index := Scalar.indexCast c24_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v579 : Index := Scalar.indexCast v4
  ![24, v579.toNat]
def k7_off27 (k7_t1 : Fin k7_t1_loop.trips) : Fin 2 → Nat :=
  let c25_i32 : BitVec 32 := 25#32
  let v583 : Index := Scalar.indexCast c25_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v584 : Index := Scalar.indexCast v4
  ![25, v584.toNat]
def k7_off28 (k7_t1 : Fin k7_t1_loop.trips) : Fin 2 → Nat :=
  let c26_i32 : BitVec 32 := 26#32
  let v588 : Index := Scalar.indexCast c26_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v589 : Index := Scalar.indexCast v4
  ![26, v589.toNat]
def k7_off29 (k7_t1 : Fin k7_t1_loop.trips) : Fin 2 → Nat :=
  let c27_i32 : BitVec 32 := 27#32
  let v593 : Index := Scalar.indexCast c27_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v594 : Index := Scalar.indexCast v4
  ![27, v594.toNat]
def k7_off30 (k7_t1 : Fin k7_t1_loop.trips) : Fin 2 → Nat :=
  let c28_i32 : BitVec 32 := 28#32
  let v598 : Index := Scalar.indexCast c28_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v599 : Index := Scalar.indexCast v4
  ![28, v599.toNat]
def k7_off31 (k7_t1 : Fin k7_t1_loop.trips) : Fin 2 → Nat :=
  let c29_i32 : BitVec 32 := 29#32
  let v603 : Index := Scalar.indexCast c29_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v604 : Index := Scalar.indexCast v4
  ![29, v604.toNat]
def k7_off32 (k7_t1 : Fin k7_t1_loop.trips) : Fin 2 → Nat :=
  let c30_i32 : BitVec 32 := 30#32
  let v608 : Index := Scalar.indexCast c30_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v609 : Index := Scalar.indexCast v4
  ![30, v609.toNat]
def k7_off33 (k7_t1 : Fin k7_t1_loop.trips) : Fin 2 → Nat :=
  let c31_i32 : BitVec 32 := 31#32
  let v613 : Index := Scalar.indexCast c31_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v614 : Index := Scalar.indexCast v4
  ![31, v614.toNat]
def k7_off34 (k7_t1 : Fin k7_t1_loop.trips) : Fin 2 → Nat :=
  let c32_i32 : BitVec 32 := 32#32
  let v797 : Index := Scalar.indexCast c32_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v798 : Index := Scalar.indexCast v4
  ![32, v798.toNat]
def k7_off35 (k7_t1 : Fin k7_t1_loop.trips) : Fin 2 → Nat :=
  let c33_i32 : BitVec 32 := 33#32
  let v802 : Index := Scalar.indexCast c33_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v803 : Index := Scalar.indexCast v4
  ![33, v803.toNat]
def k7_off36 (k7_t1 : Fin k7_t1_loop.trips) : Fin 2 → Nat :=
  let c34_i32 : BitVec 32 := 34#32
  let v807 : Index := Scalar.indexCast c34_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v808 : Index := Scalar.indexCast v4
  ![34, v808.toNat]
def k7_off37 (k7_t1 : Fin k7_t1_loop.trips) : Fin 2 → Nat :=
  let c35_i32 : BitVec 32 := 35#32
  let v812 : Index := Scalar.indexCast c35_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v813 : Index := Scalar.indexCast v4
  ![35, v813.toNat]
def k7_off38 (k7_t1 : Fin k7_t1_loop.trips) : Fin 2 → Nat :=
  let c36_i32 : BitVec 32 := 36#32
  let v817 : Index := Scalar.indexCast c36_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v818 : Index := Scalar.indexCast v4
  ![36, v818.toNat]
def k7_off39 (k7_t1 : Fin k7_t1_loop.trips) : Fin 2 → Nat :=
  let c37_i32 : BitVec 32 := 37#32
  let v822 : Index := Scalar.indexCast c37_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v823 : Index := Scalar.indexCast v4
  ![37, v823.toNat]
def k7_off40 (k7_t1 : Fin k7_t1_loop.trips) : Fin 2 → Nat :=
  let c38_i32 : BitVec 32 := 38#32
  let v827 : Index := Scalar.indexCast c38_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v828 : Index := Scalar.indexCast v4
  ![38, v828.toNat]
def k7_off41 (k7_t1 : Fin k7_t1_loop.trips) : Fin 2 → Nat :=
  let c39_i32 : BitVec 32 := 39#32
  let v832 : Index := Scalar.indexCast c39_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v833 : Index := Scalar.indexCast v4
  ![39, v833.toNat]
def k7_off42 (k7_t1 : Fin k7_t1_loop.trips) : Fin 2 → Nat :=
  let c40_i32 : BitVec 32 := 40#32
  let v1016 : Index := Scalar.indexCast c40_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1017 : Index := Scalar.indexCast v4
  ![40, v1017.toNat]
def k7_off43 (k7_t1 : Fin k7_t1_loop.trips) : Fin 2 → Nat :=
  let c41_i32 : BitVec 32 := 41#32
  let v1021 : Index := Scalar.indexCast c41_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1022 : Index := Scalar.indexCast v4
  ![41, v1022.toNat]
def k7_off44 (k7_t1 : Fin k7_t1_loop.trips) : Fin 2 → Nat :=
  let c42_i32 : BitVec 32 := 42#32
  let v1026 : Index := Scalar.indexCast c42_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1027 : Index := Scalar.indexCast v4
  ![42, v1027.toNat]
def k7_off45 (k7_t1 : Fin k7_t1_loop.trips) : Fin 2 → Nat :=
  let c43_i32 : BitVec 32 := 43#32
  let v1031 : Index := Scalar.indexCast c43_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1032 : Index := Scalar.indexCast v4
  ![43, v1032.toNat]
def k7_off46 (k7_t1 : Fin k7_t1_loop.trips) : Fin 2 → Nat :=
  let c44_i32 : BitVec 32 := 44#32
  let v1036 : Index := Scalar.indexCast c44_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1037 : Index := Scalar.indexCast v4
  ![44, v1037.toNat]
def k7_off47 (k7_t1 : Fin k7_t1_loop.trips) : Fin 2 → Nat :=
  let c45_i32 : BitVec 32 := 45#32
  let v1041 : Index := Scalar.indexCast c45_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1042 : Index := Scalar.indexCast v4
  ![45, v1042.toNat]
def k7_off48 (k7_t1 : Fin k7_t1_loop.trips) : Fin 2 → Nat :=
  let c46_i32 : BitVec 32 := 46#32
  let v1046 : Index := Scalar.indexCast c46_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1047 : Index := Scalar.indexCast v4
  ![46, v1047.toNat]
def k7_off49 (k7_t1 : Fin k7_t1_loop.trips) : Fin 2 → Nat :=
  let c47_i32 : BitVec 32 := 47#32
  let v1051 : Index := Scalar.indexCast c47_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1052 : Index := Scalar.indexCast v4
  ![47, v1052.toNat]
def k7_off50 (k7_t1 : Fin k7_t1_loop.trips) : Fin 2 → Nat :=
  let c48_i32 : BitVec 32 := 48#32
  let v1235 : Index := Scalar.indexCast c48_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1236 : Index := Scalar.indexCast v4
  ![48, v1236.toNat]
def k7_off51 (k7_t1 : Fin k7_t1_loop.trips) : Fin 2 → Nat :=
  let c49_i32 : BitVec 32 := 49#32
  let v1240 : Index := Scalar.indexCast c49_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1241 : Index := Scalar.indexCast v4
  ![49, v1241.toNat]
def k7_off52 (k7_t1 : Fin k7_t1_loop.trips) : Fin 2 → Nat :=
  let c50_i32 : BitVec 32 := 50#32
  let v1245 : Index := Scalar.indexCast c50_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1246 : Index := Scalar.indexCast v4
  ![50, v1246.toNat]
def k7_off53 (k7_t1 : Fin k7_t1_loop.trips) : Fin 2 → Nat :=
  let c51_i32 : BitVec 32 := 51#32
  let v1250 : Index := Scalar.indexCast c51_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1251 : Index := Scalar.indexCast v4
  ![51, v1251.toNat]
def k7_off54 (k7_t1 : Fin k7_t1_loop.trips) : Fin 2 → Nat :=
  let c52_i32 : BitVec 32 := 52#32
  let v1255 : Index := Scalar.indexCast c52_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1256 : Index := Scalar.indexCast v4
  ![52, v1256.toNat]
def k7_off55 (k7_t1 : Fin k7_t1_loop.trips) : Fin 2 → Nat :=
  let c53_i32 : BitVec 32 := 53#32
  let v1260 : Index := Scalar.indexCast c53_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1261 : Index := Scalar.indexCast v4
  ![53, v1261.toNat]
def k7_off56 (k7_t1 : Fin k7_t1_loop.trips) : Fin 2 → Nat :=
  let c54_i32 : BitVec 32 := 54#32
  let v1265 : Index := Scalar.indexCast c54_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1266 : Index := Scalar.indexCast v4
  ![54, v1266.toNat]
def k7_off57 (k7_t1 : Fin k7_t1_loop.trips) : Fin 2 → Nat :=
  let c55_i32 : BitVec 32 := 55#32
  let v1270 : Index := Scalar.indexCast c55_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1271 : Index := Scalar.indexCast v4
  ![55, v1271.toNat]
def k7_off58 (k7_t1 : Fin k7_t1_loop.trips) : Fin 2 → Nat :=
  let c56_i32 : BitVec 32 := 56#32
  let v1454 : Index := Scalar.indexCast c56_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1455 : Index := Scalar.indexCast v4
  ![56, v1455.toNat]
def k7_off59 (k7_t1 : Fin k7_t1_loop.trips) : Fin 2 → Nat :=
  let c57_i32 : BitVec 32 := 57#32
  let v1459 : Index := Scalar.indexCast c57_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1460 : Index := Scalar.indexCast v4
  ![57, v1460.toNat]
def k7_off60 (k7_t1 : Fin k7_t1_loop.trips) : Fin 2 → Nat :=
  let c58_i32 : BitVec 32 := 58#32
  let v1464 : Index := Scalar.indexCast c58_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1465 : Index := Scalar.indexCast v4
  ![58, v1465.toNat]
def k7_off61 (k7_t1 : Fin k7_t1_loop.trips) : Fin 2 → Nat :=
  let c59_i32 : BitVec 32 := 59#32
  let v1469 : Index := Scalar.indexCast c59_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1470 : Index := Scalar.indexCast v4
  ![59, v1470.toNat]
def k7_off62 (k7_t1 : Fin k7_t1_loop.trips) : Fin 2 → Nat :=
  let c60_i32 : BitVec 32 := 60#32
  let v1474 : Index := Scalar.indexCast c60_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1475 : Index := Scalar.indexCast v4
  ![60, v1475.toNat]
def k7_off63 (k7_t1 : Fin k7_t1_loop.trips) : Fin 2 → Nat :=
  let c61_i32 : BitVec 32 := 61#32
  let v1479 : Index := Scalar.indexCast c61_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1480 : Index := Scalar.indexCast v4
  ![61, v1480.toNat]
def k7_off64 (k7_t1 : Fin k7_t1_loop.trips) : Fin 2 → Nat :=
  let c62_i32 : BitVec 32 := 62#32
  let v1484 : Index := Scalar.indexCast c62_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1485 : Index := Scalar.indexCast v4
  ![62, v1485.toNat]
def k7_off65 (k7_t1 : Fin k7_t1_loop.trips) : Fin 2 → Nat :=
  let c63_i32 : BitVec 32 := 63#32
  let v1489 : Index := Scalar.indexCast c63_i32
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1490 : Index := Scalar.indexCast v4
  ![63, v1490.toNat]
def k7_off66 (k7_t1 : Fin k7_t1_loop.trips) : Fin 2 → Nat :=
  let c0_i32_71 : BitVec 32 := 0#32
  let v1699 : Index := Scalar.indexCast c0_i32_71
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1700 : Index := Scalar.indexCast v4
  ![0, v1700.toNat]
def k7_off67 (k7_t1 : Fin k7_t1_loop.trips) : Fin 2 → Nat :=
  let c1_i32_73 : BitVec 32 := 1#32
  let v1710 : Index := Scalar.indexCast c1_i32_73
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1711 : Index := Scalar.indexCast v4
  ![1, v1711.toNat]
def k7_off68 (k7_t1 : Fin k7_t1_loop.trips) : Fin 2 → Nat :=
  let c2_i32_75 : BitVec 32 := 2#32
  let v1721 : Index := Scalar.indexCast c2_i32_75
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1722 : Index := Scalar.indexCast v4
  ![2, v1722.toNat]
def k7_off69 (k7_t1 : Fin k7_t1_loop.trips) : Fin 2 → Nat :=
  let c3_i32_77 : BitVec 32 := 3#32
  let v1732 : Index := Scalar.indexCast c3_i32_77
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1733 : Index := Scalar.indexCast v4
  ![3, v1733.toNat]
def k7_off70 (k7_t1 : Fin k7_t1_loop.trips) : Fin 2 → Nat :=
  let c4_i32_79 : BitVec 32 := 4#32
  let v1743 : Index := Scalar.indexCast c4_i32_79
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1744 : Index := Scalar.indexCast v4
  ![4, v1744.toNat]
def k7_off71 (k7_t1 : Fin k7_t1_loop.trips) : Fin 2 → Nat :=
  let c5_i32_81 : BitVec 32 := 5#32
  let v1754 : Index := Scalar.indexCast c5_i32_81
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1755 : Index := Scalar.indexCast v4
  ![5, v1755.toNat]
def k7_off72 (k7_t1 : Fin k7_t1_loop.trips) : Fin 2 → Nat :=
  let c6_i32_83 : BitVec 32 := 6#32
  let v1765 : Index := Scalar.indexCast c6_i32_83
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1766 : Index := Scalar.indexCast v4
  ![6, v1766.toNat]
def k7_off73 (k7_t1 : Fin k7_t1_loop.trips) : Fin 2 → Nat :=
  let c7_i32_85 : BitVec 32 := 7#32
  let v1776 : Index := Scalar.indexCast c7_i32_85
  let c0_i32_0 : BitVec 32 := 0#32
  let c1_i32 : BitVec 32 := 1#32
  let arg8 : BitVec 32 := Scf.iv c0_i32_0 c1_i32 k7_t1
  let c16_i32_2 : BitVec 32 := 16#32
  let v4 : BitVec 32 := Scalar.muli arg8 c16_i32_2
  let v1777 : Index := Scalar.indexCast v4
  ![7, v1777.toNat]
def k7_off74 (i : grid7.Coords) : Fin 2 → Nat :=
  let c0_i32_2_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S32768x8 : Shape := ⟨2, ![32768, 8]⟩
abbrev S_ : Shape := ⟨0, ![]⟩
abbrev S32768 : Shape := ⟨1, ![32768]⟩
abbrev S32768x1 : Shape := ⟨2, ![32768, 1]⟩

abbrev nBuf : Space → Nat
  | .hbm => 24
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S32768x8, .f32⟩
  | .hbm, ⟨9, _⟩ => ⟨S32768x8, .i32⟩
  | .hbm, ⟨10, _⟩ => ⟨S_, .f32⟩
  | .hbm, ⟨11, _⟩ => ⟨S32768, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S32768x8, .f32⟩
  | .hbm, ⟨17, _⟩ => ⟨S32768x8, .f32⟩
  | .hbm, ⟨18, _⟩ => ⟨S32768x8, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S32768x8, .f32⟩
  | .hbm, ⟨23, _⟩ => ⟨S32768x8, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Trip.lean ====
/-
  The SparseCore kernel of the four calls, written once, stage by stage: what one tile runs, over any buffers. A stage
  hands its sixteen registers to what follows it, so that the program is the printed one, operation for operation, once
  the stages are unfolded (SameText.lean), and each stage's registers are named by the selection network (Stages.lean).
-/
module

public import proofs.«01_k».proof.KernelIdeal

@[expose] public section

noncomputable section

namespace Cert.Proof.Trip

open Cert.KernelIdeal
open Idealize.ShloMosaic Idealize.SL.Sem
open Cert.KernelIdeal.Facts₀ Cert.KernelIdeal.Facts

variable {F : FTy → Type} [FloatOps F] [Facts]

/-- Sixteen lanes of logits. -/
abbrev FV (F : FTy → Type) : Type := FVec F S16 .f32
/-- Sixteen lanes of experts. -/
abbrev IV : Type := IVec S16 32

/-- What takes eight registers of logits, each with its experts. -/
abbrev K16 (F : FTy → Type) (β : Type 1) : Type 1 :=
  FV F → IV → FV F → IV → FV F → IV → FV F → IV → FV F → IV → FV F → IV → FV F → IV → FV F → IV → β

variable {β : Type 1}

/-- One compare-exchange: the greater logits and their experts, then the lesser. -/
def cas (a : FV F) (ia : IV) (b : FV F) (ib : IV) (K : FV F → IV → FV F → IV → β) : β :=
  K (select (cmpf .oge a b) a b) (select (cmpf .oge a b) ia ib) (select (cmpf .oge a b) b a) (select (cmpf .oge a b) ib ia)

/-- The winners of one compare. -/
def win (a : FV F) (ia : IV) (b : FV F) (ib : IV) (K : FV F → IV → β) : β :=
  K (select (cmpf .oge a b) a b) (select (cmpf .oge a b) ia ib)

/-- The sort's nineteen exchanges. -/
def sortStage (x0 x1 x2 x3 x4 x5 x6 x7 : FV F) (i0 i1 i2 i3 i4 i5 i6 i7 : IV) (K : K16 F β) : β :=
  cas x0 i0 x1 i1 fun x0 i0 x1 i1 =>
  cas x2 i2 x3 i3 fun x2 i2 x3 i3 =>
  cas x4 i4 x5 i5 fun x4 i4 x5 i5 =>
  cas x6 i6 x7 i7 fun x6 i6 x7 i7 =>
  cas x0 i0 x2 i2 fun x0 i0 x2 i2 =>
  cas x1 i1 x3 i3 fun x1 i1 x3 i3 =>
  cas x4 i4 x6 i6 fun x4 i4 x6 i6 =>
  cas x5 i5 x7 i7 fun x5 i5 x7 i7 =>
  cas x1 i1 x2 i2 fun x1 i1 x2 i2 =>
  cas x5 i5 x6 i6 fun x5 i5 x6 i6 =>
  cas x0 i0 x4 i4 fun x0 i0 x4 i4 =>
  cas x1 i1 x5 i5 fun x1 i1 x5 i5 =>
  cas x2 i2 x6 i6 fun x2 i2 x6 i6 =>
  cas x3 i3 x7 i7 fun x3 i3 x7 i7 =>
  cas x1 i1 x4 i4 fun x1 i1 x4 i4 =>
  cas x3 i3 x6 i6 fun x3 i3 x6 i6 =>
  cas x2 i2 x4 i4 fun x2 i2 x4 i4 =>
  cas x3 i3 x5 i5 fun x3 i3 x5 i5 =>
  cas x3 i3 x4 i4 fun x3 i3 x4 i4 =>
  K x0 i0 x1 i1 x2 i2 x3 i3 x4 i4 x5 i5 x6 i6 x7 i7

/-- Eight rows as read, with their experts, sorted. -/
def groupStage (v0 v1 v2 v3 v4 v5 v6 v7 : Vec F S1x16 .f32) (c0 c1 c2 c3 c4 c5 c6 c7 : BitVec 32) (K : K16 F β) : β :=
  sortStage (shapeCast S16 v0 shapeCasts_S1x16_S16)
    (shapeCast S16 v1 shapeCasts_S1x16_S16)
    (shapeCast S16 v2 shapeCasts_S1x16_S16)
    (shapeCast S16 v3 shapeCasts_S1x16_S16)
    (shapeCast S16 v4 shapeCasts_S1x16_S16)
    (shapeCast S16 v5 shapeCasts_S1x16_S16)
    (shapeCast S16 v6 shapeCasts_S1x16_S16)
    (shapeCast S16 v7 shapeCasts_S1x16_S16)
    (broadcast S16 c0) (broadcast S16 c1) (broadcast S16 c2) (broadcast S16 c3) (broadcast S16 c4) (broadcast S16 c5) (broadcast S16 c6) (broadcast S16 c7) K

/-- The merge: the winners of one eight against the other reversed, through twelve exchanges. -/
def mergeStage (a0 a1 a2 a3 a4 a5 a6 a7 : FV F) (ia0 ia1 ia2 ia3 ia4 ia5 ia6 ia7 : IV)
    (b0 b1 b2 b3 b4 b5 b6 b7 : FV F) (ib0 ib1 ib2 ib3 ib4 ib5 ib6 ib7 : IV) (K : K16 F β) : β :=
  win a0 ia0 b7 ib7 fun x0 i0 =>
  win a1 ia1 b6 ib6 fun x1 i1 =>
  win a2 ia2 b5 ib5 fun x2 i2 =>
  win a3 ia3 b4 ib4 fun x3 i3 =>
  win a4 ia4 b3 ib3 fun x4 i4 =>
  win a5 ia5 b2 ib2 fun x5 i5 =>
  win a6 ia6 b1 ib1 fun x6 i6 =>
  win a7 ia7 b0 ib0 fun x7 i7 =>
  cas x0 i0 x4 i4 fun x0 i0 x4 i4 =>
  cas x1 i1 x5 i5 fun x1 i1 x5 i5 =>
  cas x2 i2 x6 i6 fun x2 i2 x6 i6 =>
  cas x3 i3 x7 i7 fun x3 i3 x7 i7 =>
  cas x0 i0 x2 i2 fun x0 i0 x2 i2 =>
  cas x1 i1 x3 i3 fun x1 i1 x3 i3 =>
  cas x4 i4 x6 i6 fun x4 i4 x6 i6 =>
  cas x5 i5 x7 i7 fun x5 i5 x7 i7 =>
  cas x0 i0 x1 i1 fun x0 i0 x1 i1 =>
  cas x2 i2 x3 i3 fun x2 i2 x3 i3 =>
  cas x4 i4 x5 i5 fun x4 i4 x5 i5 =>
  cas x6 i6 x7 i7 fun x6 i6 x7 i7 =>
  K x0 i0 x1 i1 x2 i2 x3 i3 x4 i4 x5 i5 x6 i6 x7 i7

/-- Where row `r` of lane group `t` starts, as the kernel computes it. -/
def off (r : ℕ) (t : Fin k1_t1_loop.trips) : Fin 2 → Nat :=
  ![r, (Scalar.indexCast (Scalar.muli (Scf.iv 0#32 1#32 t) 16#32)).toNat]

theorem off_eq (r : ℕ) (t : Fin k1_t1_loop.trips) : off r t = ![r, 16 * t.val] := by
  have h : ∀ t : Fin k1_t1_loop.trips, (Scalar.indexCast (Scalar.muli (Scf.iv 0#32 1#32 t) 16#32)).toNat = 16 * t.val := by
    decide +kernel
  rw [off, h]

theorem trips_eq : k1_t1_loop.trips = 16 := by decide +kernel

theorem off_inb64 (r : Fin 64) (t : Fin k1_t1_loop.trips) : ∀ a, off r t a + S1x16.size a ≤ S64x256.size a := by
  rw [off_eq]
  have h : t.val < 16 := trips_eq ▸ t.isLt
  intro a
  fin_cases a
  · show r.val + 1 ≤ 64
    omega
  · show 16 * t.val + 16 ≤ 256
    omega

theorem off_inb8 (r : Fin 8) (t : Fin k1_t1_loop.trips) : ∀ a, off r t a + S1x16.size a ≤ S8x256.size a := by
  rw [off_eq]
  have h : t.val < 16 := trips_eq ▸ t.isLt
  intro a
  fin_cases a
  · show r.val + 1 ≤ 8
    omega
  · show 16 * t.val + 16 ≤ 256
    omega

/-- Sixteen lanes of row `r` of the logits. -/
abbrev rect64 (r : Fin 64) (t : Fin k1_t1_loop.trips) : Rect S64x256 :=
  Rect.unit (s := S64x256) (off r t) S1x16.size (off_inb64 r t)
/-- Sixteen lanes of row `r` of a result. -/
abbrev rect8 (r : Fin 8) (t : Fin k1_t1_loop.trips) : Rect S8x256 :=
  Rect.unit (s := S8x256) (off r t) S1x16.size (off_inb8 r t)

variable {c : Fin τ.nSC} {s : Fin τ.nSub}

/-- Read row `r` of lane group `t` of the logits. -/
def loadRow (m5 : Memref sig .scVector .vmem S64x256 .f32) (t : Fin k1_t1_loop.trips) (r : Fin 64) :
    Prog (TpuEff nD τ sig (Elt F) Λ₀ (.scVector c s)) (Vec F S1x16 .f32) :=
  Prog.lift (.load m5 (rect64 r t).toLoadRect (View.loadsAt_vmem h_S1x16))

/-- Read eight rows of lane group `t`, in order. -/
def loadGroup (m5 : Memref sig .scVector .vmem S64x256 .f32) (t : Fin k1_t1_loop.trips) (r0 r1 r2 r3 r4 r5 r6 r7 : Fin 64)
    {γ : Type} (K : Vec F S1x16 .f32 → Vec F S1x16 .f32 → Vec F S1x16 .f32 → Vec F S1x16 .f32 → Vec F S1x16 .f32 → Vec F S1x16 .f32 → Vec F S1x16 .f32 → Vec F S1x16 .f32 → Prog (TpuEff nD τ sig (Elt F) Λ₀ (.scVector c s)) γ) :
    Prog (TpuEff nD τ sig (Elt F) Λ₀ (.scVector c s)) γ := do
  let v0 ← loadRow m5 t r0
  let v1 ← loadRow m5 t r1
  let v2 ← loadRow m5 t r2
  let v3 ← loadRow m5 t r3
  let v4 ← loadRow m5 t r4
  let v5 ← loadRow m5 t r5
  let v6 ← loadRow m5 t r6
  let v7 ← loadRow m5 t r7
  K v0 v1 v2 v3 v4 v5 v6 v7

/-- Store the row of rank `k`: each of the two results' rows is read, and written over. -/
def storeRow (m6 : Memref sig .scVector .vmem S8x256 .f32) (m7 : Memref sig .scVector .vmem S8x256 .i32)
    (t : Fin k1_t1_loop.trips) (k : Fin 8) (g : FV F) (x : IV) :
    Prog (TpuEff nD τ sig (Elt F) Λ₀ (.scVector c s)) PUnit := do
  let _ : Vec F S1x16 .f32 ← Prog.lift (.load m6 (rect8 k t).toLoadRect (View.loadsAt_vmem h_S1x16))
  Prog.lift (.store m6 (rect8 k t) (shapeCast S1x16 g shapeCasts_S16_S1x16) Finset.univ
    (View.stores_vmem_bits_univ h_S1x16 rfl) (.inl rfl))
  let _ : Vec F S1x16 .i32 ← Prog.lift (.load m7 (rect8 k t).toLoadRect (View.loadsAt_vmem h_S1x16))
  Prog.lift (.store m7 (rect8 k t) (shapeCast S1x16 x shapeCasts_S16_S1x16) Finset.univ
    (View.stores_vmem_bits_univ h_S1x16 rfl) (.inl rfl))

/-- The softmax of the eight winners, stored rank by rank with the winners' experts. -/
def storeStage (m6 : Memref sig .scVector .vmem S8x256 .f32) (m7 : Memref sig .scVector .vmem S8x256 .i32)
    (t : Fin k1_t1_loop.trips) : K16 F (Prog (TpuEff nD τ sig (Elt F) Λ₀ (.scVector c s)) PUnit) :=
  fun x0 i0 x1 i1 x2 i2 x3 i3 x4 i4 x5 i5 x6 i6 x7 i7 =>
  have e0 := exp (subf x0 x0)
  have e1 := exp (subf x1 x0)
  have e2 := exp (subf x2 x0)
  have e3 := exp (subf x3 x0)
  have e4 := exp (subf x4 x0)
  have e5 := exp (subf x5 x0)
  have e6 := exp (subf x6 x0)
  have e7 := exp (subf x7 x0)
  have inv := divf (broadcast S16 (Scalar.ofBits .f32 0x3F800000#32))
    (addf (addf (addf (addf (addf (addf (addf e0 e1) e2) e3) e4) e5) e6) e7)
  do
  storeRow m6 m7 t 0 (mulf e0 inv) i0
  storeRow m6 m7 t 1 (mulf e1 inv) i1
  storeRow m6 m7 t 2 (mulf e2 inv) i2
  storeRow m6 m7 t 3 (mulf e3 inv) i3
  storeRow m6 m7 t 4 (mulf e4 inv) i4
  storeRow m6 m7 t 5 (mulf e5 inv) i5
  storeRow m6 m7 t 6 (mulf e6 inv) i6
  storeRow m6 m7 t 7 (mulf e7 inv) i7

/-- One trip of the loop: lane group `t`'s sixty-four rows read eight at a time, each eight sorted and merged into the
    eight kept, and the eight rows of each result stored. -/
def trip (m5 : Memref sig .scVector .vmem S64x256 .f32) (m6 : Memref sig .scVector .vmem S8x256 .f32)
    (m7 : Memref sig .scVector .vmem S8x256 .i32) (t : Fin k1_t1_loop.trips) :
    Prog (TpuEff nD τ sig (Elt F) Λ₀ (.scVector c s)) PUnit :=
  loadGroup m5 t 0 1 2 3 4 5 6 7 fun v0 v1 v2 v3 v4 v5 v6 v7 =>
  groupStage v0 v1 v2 v3 v4 v5 v6 v7 0#32 1#32 2#32 3#32 4#32 5#32 6#32 7#32 fun a0 ia0 a1 ia1 a2 ia2 a3 ia3 a4 ia4 a5 ia5 a6 ia6 a7 ia7 =>
  loadGroup m5 t 8 9 10 11 12 13 14 15 fun v0 v1 v2 v3 v4 v5 v6 v7 =>
  groupStage v0 v1 v2 v3 v4 v5 v6 v7 8#32 9#32 10#32 11#32 12#32 13#32 14#32 15#32 fun b0 ib0 b1 ib1 b2 ib2 b3 ib3 b4 ib4 b5 ib5 b6 ib6 b7 ib7 =>
  mergeStage a0 a1 a2 a3 a4 a5 a6 a7 ia0 ia1 ia2 ia3 ia4 ia5 ia6 ia7 b0 b1 b2 b3 b4 b5 b6 b7 ib0 ib1 ib2 ib3 ib4 ib5 ib6 ib7 fun a0 ia0 a1 ia1 a2 ia2 a3 ia3 a4 ia4 a5 ia5 a6 ia6 a7 ia7 =>
  loadGroup m5 t 16 17 18 19 20 21 22 23 fun v0 v1 v2 v3 v4 v5 v6 v7 =>
  groupStage v0 v1 v2 v3 v4 v5 v6 v7 16#32 17#32 18#32 19#32 20#32 21#32 22#32 23#32 fun b0 ib0 b1 ib1 b2 ib2 b3 ib3 b4 ib4 b5 ib5 b6 ib6 b7 ib7 =>
  mergeStage a0 a1 a2 a3 a4 a5 a6 a7 ia0 ia1 ia2 ia3 ia4 ia5 ia6 ia7 b0 b1 b2 b3 b4 b5 b6 b7 ib0 ib1 ib2 ib3 ib4 ib5 ib6 ib7 fun a0 ia0 a1 ia1 a2 ia2 a3 ia3 a4 ia4 a5 ia5 a6 ia6 a7 ia7 =>
  loadGroup m5 t 24 25 26 27 28 29 30 31 fun v0 v1 v2 v3 v4 v5 v6 v7 =>
  groupStage v0 v1 v2 v3 v4 v5 v6 v7 24#32 25#32 26#32 27#32 28#32 29#32 30#32 31#32 fun b0 ib0 b1 ib1 b2 ib2 b3 ib3 b4 ib4 b5 ib5 b6 ib6 b7 ib7 =>
  mergeStage a0 a1 a2 a3 a4 a5 a6 a7 ia0 ia1 ia2 ia3 ia4 ia5 ia6 ia7 b0 b1 b2 b3 b4 b5 b6 b7 ib0 ib1 ib2 ib3 ib4 ib5 ib6 ib7 fun a0 ia0 a1 ia1 a2 ia2 a3 ia3 a4 ia4 a5 ia5 a6 ia6 a7 ia7 =>
  loadGroup m5 t 32 33 34 35 36 37 38 39 fun v0 v1 v2 v3 v4 v5 v6 v7 =>
  groupStage v0 v1 v2 v3 v4 v5 v6 v7 32#32 33#32 34#32 35#32 36#32 37#32 38#32 39#32 fun b0 ib0 b1 ib1 b2 ib2 b3 ib3 b4 ib4 b5 ib5 b6 ib6 b7 ib7 =>
  mergeStage a0 a1 a2 a3 a4 a5 a6 a7 ia0 ia1 ia2 ia3 ia4 ia5 ia6 ia7 b0 b1 b2 b3 b4 b5 b6 b7 ib0 ib1 ib2 ib3 ib4 ib5 ib6 ib7 fun a0 ia0 a1 ia1 a2 ia2 a3 ia3 a4 ia4 a5 ia5 a6 ia6 a7 ia7 =>
  loadGroup m5 t 40 41 42 43 44 45 46 47 fun v0 v1 v2 v3 v4 v5 v6 v7 =>
  groupStage v0 v1 v2 v3 v4 v5 v6 v7 40#32 41#32 42#32 43#32 44#32 45#32 46#32 47#32 fun b0 ib0 b1 ib1 b2 ib2 b3 ib3 b4 ib4 b5 ib5 b6 ib6 b7 ib7 =>
  mergeStage a0 a1 a2 a3 a4 a5 a6 a7 ia0 ia1 ia2 ia3 ia4 ia5 ia6 ia7 b0 b1 b2 b3 b4 b5 b6 b7 ib0 ib1 ib2 ib3 ib4 ib5 ib6 ib7 fun a0 ia0 a1 ia1 a2 ia2 a3 ia3 a4 ia4 a5 ia5 a6 ia6 a7 ia7 =>
  loadGroup m5 t 48 49 50 51 52 53 54 55 fun v0 v1 v2 v3 v4 v5 v6 v7 =>
  groupStage v0 v1 v2 v3 v4 v5 v6 v7 48#32 49#32 50#32 51#32 52#32 53#32 54#32 55#32 fun b0 ib0 b1 ib1 b2 ib2 b3 ib3 b4 ib4 b5 ib5 b6 ib6 b7 ib7 =>
  mergeStage a0 a1 a2 a3 a4 a5 a6 a7 ia0 ia1 ia2 ia3 ia4 ia5 ia6 ia7 b0 b1 b2 b3 b4 b5 b6 b7 ib0 ib1 ib2 ib3 ib4 ib5 ib6 ib7 fun a0 ia0 a1 ia1 a2 ia2 a3 ia3 a4 ia4 a5 ia5 a6 ia6 a7 ia7 =>
  loadGroup m5 t 56 57 58 59 60 61 62 63 fun v0 v1 v2 v3 v4 v5 v6 v7 =>
  groupStage v0 v1 v2 v3 v4 v5 v6 v7 56#32 57#32 58#32 59#32 60#32 61#32 62#32 63#32 fun b0 ib0 b1 ib1 b2 ib2 b3 ib3 b4 ib4 b5 ib5 b6 ib6 b7 ib7 =>
  mergeStage a0 a1 a2 a3 a4 a5 a6 a7 ia0 ia1 ia2 ia3 ia4 ia5 ia6 ia7 b0 b1 b2 b3 b4 b5 b6 b7 ib0 ib1 ib2 ib3 ib4 ib5 ib6 ib7 fun a0 ia0 a1 ia1 a2 ia2 a3 ia3 a4 ia4 a5 ia5 a6 ia6 a7 ia7 =>
  storeStage m6 m7 t a0 ia0 a1 ia1 a2 ia2 a3 ia3 a4 ia4 a5 ia5 a6 ia6 a7 ia7

/-- The whole kernel on one tile: its columns of the logits in, the trips, its columns of the two results out. -/
def scTopk (i : grid1.Coords) (arg2 : Memref sig .scVector .hbm S64x8192 .f32) (arg3 : Memref sig .scVector .hbm S8x8192 .f32)
    (arg4 : Memref sig .scVector .hbm S8x8192 .i32) (arg5 : Memref sig .scVector .vmem S64x256 .f32) (harg5 : arg5.IsWhole)
    (arg6 : Memref sig .scVector .vmem S8x256 .f32) (harg6 : arg6.IsWhole)
    (arg7 : Memref sig .scVector .vmem S8x256 .i32) (harg7 : arg7.IsWhole) (r0 r1 r2 : DmaSems sig S_) :
    Prog (TpuEff nD τ sig (Elt F) Λ₀ (.scVector ((i 0).castLE hcore1) ((i 1).castLE hsub1))) PUnit := do
  Prog.lift (.enqueueDma (arg2.slice (Rect.unit (s := S64x8192) (k1_off1 i) S64x256.size (k1_off1_inb i)) (fun _ => rfl))
    (.here arg5) (.dma r0.sem) (View.wordExact_bits rfl) harg5.wordExact ⟨Or.inl rfl, trivial⟩)
  Prog.lift (.waitDma2 r0.sem (arg2.slice (Rect.unit (s := S64x8192) (k1_off1 i) S64x256.size (k1_off1_inb i)) (fun _ => rfl))
    arg5 (View.wordExact_bits rfl) harg5.wordExact)
  Scf.Loop.for k1_t1_loop k1_t1_ok ⟨⟩ fun t _ => trip arg5 arg6 arg7 t
  Prog.lift (.enqueueDma arg6 (.here (arg3.slice (Rect.unit (s := S8x8192) (k1_off74 i) S8x256.size (k1_off74_inb i)) (fun _ => rfl)))
    (.dma r1.sem) harg6.wordExact (View.wordExact_bits rfl) ⟨Or.inl rfl, trivial⟩)
  Prog.lift (.waitDma2 r1.sem arg6 (arg3.slice (Rect.unit (s := S8x8192) (k1_off74 i) S8x256.size (k1_off74_inb i)) (fun _ => rfl))
    harg6.wordExact (View.wordExact_bits rfl))
  Prog.lift (.enqueueDma arg7 (.here (arg4.slice (Rect.unit (s := S8x8192) (k1_off74 i) S8x256.size (k1_off74_inb i)) (fun _ => rfl)))
    (.dma r2.sem) harg7.wordExact (View.wordExact_bits rfl) ⟨Or.inl rfl, trivial⟩)
  Prog.lift (.waitDma2 r2.sem arg7 (arg4.slice (Rect.unit (s := S8x8192) (k1_off74 i) S8x256.size (k1_off74_inb i)) (fun _ => rfl))
    harg7.wordExact (View.wordExact_bits rfl))
  pure ⟨⟩

end Cert.Proof.Trip
-- ==== Proof.SameText.lean ====
/-
  The four printed SparseCore kernels are the one of Trip.lean, by unfolding.
-/
module

public import proofs.«01_k».proof.Proof.Trip

@[expose] public section

noncomputable section

namespace Cert.Proof.Trip

open Cert.KernelIdeal
open Idealize.ShloMosaic Idealize.SL.Sem

variable {F : FTy → Type} [FloatOps F] [Facts]

variable (i : grid1.Coords) (arg2 : Memref sig .scVector .hbm S64x8192 .f32) (h2 : arg2.IsWhole)
    (arg3 : Memref sig .scVector .hbm S8x8192 .f32) (h3 : arg3.IsWhole)
    (arg4 : Memref sig .scVector .hbm S8x8192 .i32) (h4 : arg4.IsWhole)
    (arg5 : Memref sig .scVector .vmem S64x256 .f32) (h5 : arg5.IsWhole)
    (arg6 : Memref sig .scVector .vmem S8x256 .f32) (h6 : arg6.IsWhole)
    (arg7 : Memref sig .scVector .vmem S8x256 .i32) (h7 : arg7.IsWhole) (r0 r1 r2 : DmaSems sig S_)

set_option maxRecDepth 1000000 in
/-- The kernel of the first call is the one of Trip.lean. -/
theorem cc1_eq : cc1_sc_topk (F := F) i arg2 h2 arg3 h3 arg4 h4 arg5 h5 arg6 h6 arg7 h7 r0 r1 r2
    = scTopk (F := F) i arg2 arg3 arg4 arg5 h5 arg6 h6 arg7 h7 r0 r1 r2 := rfl

set_option maxRecDepth 1000000 in
/-- The kernel of the second call is the one of Trip.lean. -/
theorem cc3_eq : cc3_sc_topk (F := F) i arg2 h2 arg3 h3 arg4 h4 arg5 h5 arg6 h6 arg7 h7 r0 r1 r2
    = scTopk (F := F) i arg2 arg3 arg4 arg5 h5 arg6 h6 arg7 h7 r0 r1 r2 := rfl

set_option maxRecDepth 1000000 in
/-- The kernel of the third call is the one of Trip.lean. -/
theorem cc5_eq : cc5_sc_topk (F := F) i arg2 h2 arg3 h3 arg4 h4 arg5 h5 arg6 h6 arg7 h7 r0 r1 r2
    = scTopk (F := F) i arg2 arg3 arg4 arg5 h5 arg6 h6 arg7 h7 r0 r1 r2 := rfl

set_option maxRecDepth 1000000 in
/-- The kernel of the fourth call is the one of Trip.lean. -/
theorem cc7_eq : cc7_sc_topk (F := F) i arg2 h2 arg3 h3 arg4 h4 arg5 h5 arg6 h6 arg7 h7 r0 r1 r2
    = scTopk (F := F) i arg2 arg3 arg4 arg5 h5 arg6 h6 arg7 h7 r0 r1 r2 := rfl

end Cert.Proof.Trip
-- ==== Proof.Net.lean ====
/-
  The selection network of the SparseCore kernel, over any entries and any compare-exchange: eight entries sorted by
  nineteen exchanges (`sort8`), two sorted eights merged into the eight that win (`merge8`), and the fold of both over
  sixty-four entries (`top8`). The vector program and one lane of it are this network at two exchanges, so what it does
  to a lane follows from what the exchange does to one (`top8_map`).
-/
module

public import Mathlib.Data.Fin.Basic
public import Mathlib.Data.List.Basic

@[expose] public section

namespace Cert.Proof.Net

variable {α β : Type*}

/-- One exchange at positions `a` and `b`: the winner to `a`, the loser to `b`. -/
def exch (cx : α → α → α × α) (v : Fin 8 → α) (ab : Fin 8 × Fin 8) : Fin 8 → α := fun k =>
  if k = ab.1 then (cx (v ab.1) (v ab.2)).1 else if k = ab.2 then (cx (v ab.1) (v ab.2)).2 else v k

/-- The sort's exchanges, in order. -/
def sortPairs : List (Fin 8 × Fin 8) :=
  [(0, 1), (2, 3), (4, 5), (6, 7), (0, 2), (1, 3), (4, 6), (5, 7), (1, 2), (5, 6), (0, 4), (1, 5), (2, 6), (3, 7),
    (1, 4), (3, 6), (2, 4), (3, 5), (3, 4)]

/-- The merge's exchanges, in order. -/
def mergePairs : List (Fin 8 × Fin 8) :=
  [(0, 4), (1, 5), (2, 6), (3, 7), (0, 2), (1, 3), (4, 6), (5, 7), (0, 1), (2, 3), (4, 5), (6, 7)]

/-- Eight entries through the sort's exchanges. -/
def sort8 (cx : α → α → α × α) (v : Fin 8 → α) : Fin 8 → α := sortPairs.foldl (exch cx) v

/-- The winners of `A` against `B` reversed, through the merge's exchanges. -/
def merge8 (cx : α → α → α × α) (A B : Fin 8 → α) : Fin 8 → α :=
  mergePairs.foldl (exch cx) fun k => (cx (A k) (B k.rev)).1

/-- Group `j` of sixty-four entries, sorted. -/
def group (cx : α → α → α × α) (x : Fin 64 → α) (j : Fin 8) : Fin 8 → α :=
  sort8 cx fun t => x ⟨8 * j.val + t.val, by omega⟩

/-- The first group, sorted, and the seven others merged into it one at a time. -/
def top8 (cx : α → α → α × α) (x : Fin 64 → α) : Fin 8 → α :=
  [1, 2, 3, 4, 5, 6, 7].foldl (fun A j => merge8 cx A (group cx x j)) (group cx x 0)

section map

variable {cx : α → α → α × α} {cy : β → β → β × β} {h : α → β}
  (hc : ∀ p q, cy (h p) (h q) = (h (cx p q).1, h (cx p q).2))

include hc

theorem exch_map (v : Fin 8 → α) (ab : Fin 8 × Fin 8) : exch cy (h ∘ v) ab = h ∘ exch cx v ab := by
  funext k
  simp only [exch, Function.comp_apply, hc]
  split
  · rfl
  · split <;> rfl

theorem foldl_exch_map (l : List (Fin 8 × Fin 8)) (v : Fin 8 → α) :
    l.foldl (exch cy) (h ∘ v) = h ∘ l.foldl (exch cx) v := by
  induction l generalizing v with
  | nil => rfl
  | cons ab l ih => rw [List.foldl_cons, List.foldl_cons, exch_map hc, ih]

theorem sort8_map (v : Fin 8 → α) : sort8 cy (h ∘ v) = h ∘ sort8 cx v := foldl_exch_map hc _ v

theorem merge8_map (A B : Fin 8 → α) : merge8 cy (h ∘ A) (h ∘ B) = h ∘ merge8 cx A B := by
  rw [merge8, merge8, ← foldl_exch_map hc]
  congr 1
  funext k
  simp only [Function.comp_apply, hc]

theorem group_map (x : Fin 64 → α) (j : Fin 8) : group cy (h ∘ x) j = h ∘ group cx x j := by
  rw [group, group, ← sort8_map hc]
  rfl

/-- A map that carries one exchange to the other carries one network to the other. -/
theorem top8_map (x : Fin 64 → α) : top8 cy (h ∘ x) = h ∘ top8 cx x := by
  have fold : ∀ (l : List (Fin 8)) (A : Fin 8 → α),
      l.foldl (fun A j => merge8 cy A (group cy (h ∘ x) j)) (h ∘ A)
        = h ∘ l.foldl (fun A j => merge8 cx A (group cx x j)) A := by
    intro l
    induction l with
    | nil => intro A; rfl
    | cons j l ih => intro A; rw [List.foldl_cons, List.foldl_cons, group_map hc, merge8_map hc, ih]
  rw [top8, group_map hc, fold, top8]

end map

section pred

variable {cx : α → α → α × α} {P : α → Prop} (hP : ∀ p q, P p → P q → P (cx p q).1 ∧ P (cx p q).2)

include hP

theorem foldl_exch_pred (l : List (Fin 8 × Fin 8)) (v : Fin 8 → α) (hv : ∀ k, P (v k)) (k : Fin 8) :
    P (l.foldl (exch cx) v k) := by
  induction l generalizing v with
  | nil => exact hv k
  | cons ab l ih =>
    rw [List.foldl_cons]
    refine ih _ fun k => ?_
    rw [exch]
    split
    · exact (hP _ _ (hv _) (hv _)).1
    · split
      · exact (hP _ _ (hv _) (hv _)).2
      · exact hv k

/-- What holds of every entry, and is kept by the exchange, holds of every entry that is left. -/
theorem top8_pred (x : Fin 64 → α) (hx : ∀ e, P (x e)) (k : Fin 8) : P (top8 cx x k) := by
  have hg : ∀ j k, P (group cx x j k) := fun j => foldl_exch_pred hP _ _ fun _ => hx _
  have fold : ∀ (l : List (Fin 8)) (A : Fin 8 → α), (∀ k, P (A k)) →
      ∀ k, P (l.foldl (fun A j => merge8 cx A (group cx x j)) A k) := by
    intro l
    induction l with
    | nil => intro A hA; exact hA
    | cons j l ih =>
      intro A hA
      exact ih _ (foldl_exch_pred hP _ _ fun k => (hP _ _ (hA _) (hg j _)).1)
  exact fold _ _ (hg 0) k

end pred

end Cert.Proof.Net
-- ==== Proof.Stages.lean ====
/-
  The stages' registers, named by the selection network (Net.lean): a pair of vectors — sixteen logits and their
  sixteen experts — is one entry, and the kernel's compare and selects are one exchange of two of them (`vcx`).
-/
module

public import proofs.«01_k».proof.Proof.Trip
public import proofs.«01_k».proof.Proof.Net

@[expose] public section

noncomputable section

namespace Cert.Proof.Trip

open Cert.KernelIdeal
open Idealize.ShloMosaic Idealize.SL.Sem
open Cert.KernelIdeal.Facts₀ Cert.KernelIdeal.Facts

variable {F : FTy → Type} [FloatOps F] [Facts] {β : Type 1}

/-- Sixteen logits with their experts. -/
abbrev PV (F : FTy → Type) : Type := FV F × IV

/-- The kernel's compare-exchange of two such: where the first logit is at least the second the two stay, elsewhere
    they change places, the experts with the logits. -/
def vcx (p q : PV F) : PV F × PV F :=
  ((select (cmpf .oge p.1 q.1) p.1 q.1, select (cmpf .oge p.1 q.1) p.2 q.2),
    (select (cmpf .oge p.1 q.1) q.1 p.1, select (cmpf .oge p.1 q.1) q.2 p.2))

/-- Eight pairs handed on as sixteen registers. -/
def app8 (K : K16 F β) (v : Fin 8 → PV F) : β :=
  K (v 0).1 (v 0).2 (v 1).1 (v 1).2 (v 2).1 (v 2).2 (v 3).1 (v 3).2 (v 4).1 (v 4).2 (v 5).1 (v 5).2 (v 6).1 (v 6).2 (v 7).1 (v 7).2

/-- The sort stage is the network's sort. -/
theorem sortStage_eq (v : Fin 8 → PV F) (K : K16 F β) :
    sortStage (v 0).1 (v 1).1 (v 2).1 (v 3).1 (v 4).1 (v 5).1 (v 6).1 (v 7).1
      (v 0).2 (v 1).2 (v 2).2 (v 3).2 (v 4).2 (v 5).2 (v 6).2 (v 7).2 K = app8 K (Net.sort8 vcx v) := rfl

/-- The merge stage is the network's merge. -/
theorem mergeStage_eq (A B : Fin 8 → PV F) (K : K16 F β) :
    mergeStage (A 0).1 (A 1).1 (A 2).1 (A 3).1 (A 4).1 (A 5).1 (A 6).1 (A 7).1
      (A 0).2 (A 1).2 (A 2).2 (A 3).2 (A 4).2 (A 5).2 (A 6).2 (A 7).2
      (B 0).1 (B 1).1 (B 2).1 (B 3).1 (B 4).1 (B 5).1 (B 6).1 (B 7).1
      (B 0).2 (B 1).2 (B 2).2 (B 3).2 (B 4).2 (B 5).2 (B 6).2 (B 7).2 K = app8 K (Net.merge8 vcx A B) := rfl

/-- The sixty-four entries of a lane group, from its rows as read. -/
def entries (row : Fin 64 → Vec F S1x16 .f32) (e : Fin 64) : PV F :=
  (shapeCast S16 (row e) shapeCasts_S1x16_S16, broadcast S16 (BitVec.ofNat 32 e.val))

/-- The eight winners of a lane group. -/
def winners (row : Fin 64 → Vec F S1x16 .f32) : Fin 8 → PV F := Net.top8 vcx (entries row)

end Cert.Proof.Trip
-- ==== Proof.Lane.lean ====
/-
  One lane of the SparseCore kernel: a token's sixty-four logits through the selection network with its experts beside
  them (`laneTop`), the softmax of the eight winners as the kernel computes it (`laneGate`) and their experts
  (`laneIdx`). The vector program's stores are these, lane by lane (`gate_apply`, `idx_apply`).
-/
module

public import proofs.«01_k».proof.Proof.Stages

@[expose] public section

noncomputable section

namespace Cert.Proof.Trip

open Cert.KernelIdeal
open Idealize.ShloMosaic Idealize.SL.Sem
open Cert.KernelIdeal.Facts₀ Cert.KernelIdeal.Facts

variable {F : FTy → Type} [FloatOps F] [Facts]

/-- A logit with its expert. -/
abbrev PS (F : FTy → Type) : Type := F .f32 × BitVec 32

/-- The compare-exchange of two logits with their experts. -/
def scx (p q : PS F) : PS F × PS F :=
  ((Scalar.select (FloatOps.cmpf .oge p.1 q.1) p.1 q.1, Scalar.select (FloatOps.cmpf .oge p.1 q.1) p.2 q.2),
    (Scalar.select (FloatOps.cmpf .oge p.1 q.1) q.1 p.1, Scalar.select (FloatOps.cmpf .oge p.1 q.1) q.2 p.2))

/-- A token's logits with their experts. -/
def laneEntries (col : Fin 64 → F .f32) (e : Fin 64) : PS F := (col e, BitVec.ofNat 32 e.val)

/-- A token's eight winners. -/
def laneTop (col : Fin 64 → F .f32) : Fin 8 → PS F := Net.top8 scx (laneEntries col)

/-- The exponential of winner `k` less the first, of eight winners. -/
def expo (v : Fin 8 → F .f32) (k : Fin 8) : F .f32 := FloatOps.exp (FloatOps.subf (v k) (v 0))

/-- The kernel's softmax of eight winners: each exponential times one over their sum, added from the first. -/
def softGate (v : Fin 8 → F .f32) (k : Fin 8) : F .f32 :=
  FloatOps.mulf (expo v k) (FloatOps.divf (Scalar.ofBits .f32 0x3F800000#32)
    (FloatOps.addf (FloatOps.addf (FloatOps.addf (FloatOps.addf (FloatOps.addf (FloatOps.addf (FloatOps.addf
      (expo v 0) (expo v 1)) (expo v 2)) (expo v 3)) (expo v 4)) (expo v 5)) (expo v 6)) (expo v 7)))

/-- A token's gate of rank `k`. -/
def laneGate (col : Fin 64 → F .f32) (k : Fin 8) : F .f32 := softGate (fun j => (laneTop col j).1) k

/-- A token's expert of rank `k`. -/
def laneIdx (col : Fin 64 → F .f32) (k : Fin 8) : BitVec 32 := (laneTop col k).2

/-- The sixteen lanes' gates of rank `k`. -/
def gateVec (w : Fin 8 → PV F) (k : Fin 8) : FV F := fun i => softGate (fun j => (w j).1 i) k

/-- Lane `i` of the winners of a lane group are the winners of lane `i`. -/
theorem winners_lane (row : Fin 64 → Vec F S1x16 .f32) (i : S16.Idx) (k : Fin 8) :
    (((winners row k).1 i, (winners row k).2 i) : PS F)
      = laneTop (fun e => shapeCast S16 (row e) shapeCasts_S1x16_S16 i) k :=
  (congrFun (Net.top8_map (cx := vcx) (cy := scx) (h := fun p : PV F => ((p.1 i, p.2 i) : PS F)) (fun _ _ => rfl) (entries row)) k).symm

/-- There and back between a row of sixteen and sixteen. -/
theorem cast_back {α : Type} (v : S1x16.Idx → α) (y : S1x16.Idx) :
    shapeCast S16 v shapeCasts_S1x16_S16 (Shape.reshapeEquiv shapeCasts_S16_S1x16 y) = v y := by
  show v (Shape.reshapeEquiv _ (Shape.reshapeEquiv _ y)) = v y
  rw [Shape.reshapeEquiv_reshapeEquiv, Shape.reshapeEquiv_self]

/-- What is stored as the gates of rank `k`, at its own place. -/
theorem gate_apply (row : Fin 64 → Vec F S1x16 .f32) (k : Fin 8) (y : S1x16.Idx) :
    shapeCast S1x16 (gateVec (winners row) k) shapeCasts_S16_S1x16 y = laneGate (fun e => row e y) k := by
  show softGate (fun j => (winners row j).1 (Shape.reshapeEquiv shapeCasts_S16_S1x16 y)) k = _
  unfold laneGate
  congr 1
  funext j
  have h := congrArg Prod.fst (winners_lane row (Shape.reshapeEquiv shapeCasts_S16_S1x16 y) j)
  simp only [cast_back] at h
  exact h

/-- What is stored as the experts of rank `k`, at its own place. -/
theorem idx_apply (row : Fin 64 → Vec F S1x16 .f32) (k : Fin 8) (y : S1x16.Idx) :
    shapeCast S1x16 (winners row k).2 shapeCasts_S16_S1x16 y = laneIdx (fun e => row e y) k := by
  have h := congrArg Prod.snd (winners_lane row (Shape.reshapeEquiv shapeCasts_S16_S1x16 y) k)
  simp only [cast_back] at h
  exact h

variable {c : Fin τ.nSC} {s : Fin τ.nSub}

/-- The store stage, by the eight winners. -/
theorem storeStage_eq (m6 : Memref sig .scVector .vmem S8x256 .f32) (m7 : Memref sig .scVector .vmem S8x256 .i32)
    (t : Fin k1_t1_loop.trips) (w : Fin 8 → PV F) :
    app8 (storeStage (c := c) (s := s) m6 m7 t) w = (do
      storeRow m6 m7 t 0 (gateVec w 0) (w 0).2
      storeRow m6 m7 t 1 (gateVec w 1) (w 1).2
      storeRow m6 m7 t 2 (gateVec w 2) (w 2).2
      storeRow m6 m7 t 3 (gateVec w 3) (w 3).2
      storeRow m6 m7 t 4 (gateVec w 4) (w 4).2
      storeRow m6 m7 t 5 (gateVec w 5) (w 5).2
      storeRow m6 m7 t 6 (gateVec w 6) (w 6).2
      storeRow m6 m7 t 7 (gateVec w 7) (w 7).2) := rfl

/-- Row `i` of group `j`. -/
abbrev rowIx (j : Fin 8) (i : ℕ) (h : i < 8) : Fin 64 := ⟨8 * j.val + i, by omega⟩

/-- Group `j` read, sorted and handed on. -/
def groupK (m5 : Memref sig .scVector .vmem S64x256 .f32) (t : Fin k1_t1_loop.trips) (j : Fin 8)
    (K : K16 F (Prog (TpuEff nD τ sig (Elt F) Λ₀ (.scVector c s)) PUnit)) : Prog (TpuEff nD τ sig (Elt F) Λ₀ (.scVector c s)) PUnit :=
  loadGroup m5 t (rowIx j 0 (by decide)) (rowIx j 1 (by decide)) (rowIx j 2 (by decide)) (rowIx j 3 (by decide))
      (rowIx j 4 (by decide)) (rowIx j 5 (by decide)) (rowIx j 6 (by decide)) (rowIx j 7 (by decide)) fun v0 v1 v2 v3 v4 v5 v6 v7 =>
  groupStage v0 v1 v2 v3 v4 v5 v6 v7 (BitVec.ofNat 32 (8 * j.val + 0)) (BitVec.ofNat 32 (8 * j.val + 1)) (BitVec.ofNat 32 (8 * j.val + 2))
    (BitVec.ofNat 32 (8 * j.val + 3)) (BitVec.ofNat 32 (8 * j.val + 4)) (BitVec.ofNat 32 (8 * j.val + 5))
    (BitVec.ofNat 32 (8 * j.val + 6)) (BitVec.ofNat 32 (8 * j.val + 7)) K

/-- Group `j` read and sorted, then merged into the eight kept. -/
def stepK (m5 : Memref sig .scVector .vmem S64x256 .f32) (t : Fin k1_t1_loop.trips) (j : Fin 8)
    (K : K16 F (Prog (TpuEff nD τ sig (Elt F) Λ₀ (.scVector c s)) PUnit)) : K16 F (Prog (TpuEff nD τ sig (Elt F) Λ₀ (.scVector c s)) PUnit) :=
  fun a0 ia0 a1 ia1 a2 ia2 a3 ia3 a4 ia4 a5 ia5 a6 ia6 a7 ia7 =>
  groupK m5 t j fun b0 ib0 b1 ib1 b2 ib2 b3 ib3 b4 ib4 b5 ib5 b6 ib6 b7 ib7 =>
  mergeStage a0 a1 a2 a3 a4 a5 a6 a7 ia0 ia1 ia2 ia3 ia4 ia5 ia6 ia7 b0 b1 b2 b3 b4 b5 b6 b7 ib0 ib1 ib2 ib3 ib4 ib5 ib6 ib7 K

/-- A trip: the first group, the seven others merged into it, the store stage. -/
theorem trip_eq (m5 : Memref sig .scVector .vmem S64x256 .f32) (m6 : Memref sig .scVector .vmem S8x256 .f32)
    (m7 : Memref sig .scVector .vmem S8x256 .i32) (t : Fin k1_t1_loop.trips) :
    trip (c := c) (s := s) (F := F) m5 m6 m7 t = groupK m5 t 0 (stepK m5 t 1 (stepK m5 t 2 (stepK m5 t 3 (stepK m5 t 4 (stepK m5 t 5
      (stepK m5 t 6 (stepK m5 t 7 (storeStage m6 m7 t)))))))) := rfl

/-- A group's registers, by the rows read. -/
theorem groupStage_rows {β : Type 1} (row : Fin 64 → Vec F S1x16 .f32) (j : Fin 8) (K : K16 F β) :
    groupStage (row (rowIx j 0 (by decide))) (row (rowIx j 1 (by decide))) (row (rowIx j 2 (by decide))) (row (rowIx j 3 (by decide)))
      (row (rowIx j 4 (by decide))) (row (rowIx j 5 (by decide))) (row (rowIx j 6 (by decide))) (row (rowIx j 7 (by decide)))
      (BitVec.ofNat 32 (8 * j.val + 0)) (BitVec.ofNat 32 (8 * j.val + 1)) (BitVec.ofNat 32 (8 * j.val + 2))
      (BitVec.ofNat 32 (8 * j.val + 3)) (BitVec.ofNat 32 (8 * j.val + 4)) (BitVec.ofNat 32 (8 * j.val + 5))
      (BitVec.ofNat 32 (8 * j.val + 6)) (BitVec.ofNat 32 (8 * j.val + 7)) K
      = app8 K (Net.group vcx (entries row) j) :=
  sortStage_eq (fun t : Fin 8 => entries row ⟨8 * j.val + t.val, by omega⟩) K

/-- The eight kept after each group. -/
theorem winners_eq (row : Fin 64 → Vec F S1x16 .f32) :
    winners row = Net.merge8 vcx (Net.merge8 vcx (Net.merge8 vcx (Net.merge8 vcx (Net.merge8 vcx (Net.merge8 vcx (Net.merge8 vcx
      (Net.group vcx (entries row) 0) (Net.group vcx (entries row) 1)) (Net.group vcx (entries row) 2)) (Net.group vcx (entries row) 3))
      (Net.group vcx (entries row) 4)) (Net.group vcx (entries row) 5)) (Net.group vcx (entries row) 6)) (Net.group vcx (entries row) 7) := rfl

end Cert.Proof.Trip
-- ==== Proof.Common.lean ====
/-
  The program as the launch theorem of the SparseCores sees it: four pipelines on the TensorCore, four SparseCore
  calls, and the resource algebra of the proof — the handshakes' rounds, the pipelines' rounds, the transfers' counters.
-/
module

public import proofs.«01_k».proof.Defs
public import proofs.«01_k».proof.Proof.SameText
public import proofs.«01_k».proof.Proof.Lane
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.K

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The handshakes' rounds, the pipelines' rounds, the transfers' counters. -/
abbrev UU : Type := UH × (UR sig nD τ × Counters)

abbrev EH : Emb UH (MT nD τ sig (HIx 4) (Elt F) ℕ UU ℕ) := embL
def EP : Emb (UR sig nD τ) (MT nD τ sig (HIx 4) (Elt F) ℕ UU ℕ) :=
  (Emb.inl : Emb (UR sig nD τ) (UR sig nD τ × Counters)).trans embR

instance EP_landsIn : (EP (F := F)).LandsIn (upEmb : UEmb _ (MT nD τ sig (HIx 4) (Elt F) ℕ UU ℕ)) := by
  unfold EP embR; infer_instance

end Cert.Proof.K
-- ==== Proof.TripWp.lean ====
/-
  One trip of the SparseCore kernel's loop, run: from the scratch of logits at known contents, the eight rows of each
  result get this lane group's gates and experts, whatever the columns done before hold.
-/
module

public import proofs.«01_k».proof.Proof.Common
public import Idealize.ShloMosaic.Lib.ValueLayout
public import Idealize.ShloMosaic.Lib.Writes

@[expose] public section

noncomputable section

namespace Cert.Proof.K

open Cert.KernelIdeal Cert.KernelIdeal.Gen
open Cert.Proof.Trip hiding trips_eq
open Idealize.ShloMosaic
open Idealize.ShloMosaic.SparseCore.Cfg (HIx)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig (HIx 4) (Elt F) ℕ UU ℕ

/-- What a tile's gates are, of its columns of the logits. -/
def gAt (X : S64x256.Idx → Elt F .f32) (y : S8x256.Idx) : Elt F .f32 :=
  laneGate (F := F) (fun e => X (ix2 (n0 := 64) (n1 := 256) e (y 1))) (y 0)

/-- What a tile's experts are. -/
def iAt (X : S64x256.Idx → Elt F .f32) (y : S8x256.Idx) : Elt F .i32 :=
  laneIdx (F := F) (fun e => X (ix2 (n0 := 64) (n1 := 256) e (y 1))) (y 0)

/-- The view reads `G` at every column before lane group `t`, and at group `t`'s columns of the rows before `k`. -/
def Done {e : EltTy} (v : View sig .scVector .vmem S8x256 e) (G : S8x256.Idx → Elt F e) (f : v.ty.Contents (Elt F)) (t k : ℕ) : Prop :=
  ∀ y : S8x256.Idx, (y 1).val < 16 * t ∨ ((y 1).val < 16 * t + 16 ∧ (y 0).val < k) → v.read (Elt F) f y = G y

theorem emb8_val (k : Fin 8) (t : Fin k1_t1_loop.trips) (x : (rect8 k t).shape.Idx) (a : Fin 2) :
    ((rect8 k t).emb x a).val = off k t a + (x a).val := by
  show off k t a + 1 * (x a).val = _
  omega

theorem emb64_val (e : Fin 64) (t : Fin k1_t1_loop.trips) (x : (rect64 e t).shape.Idx) (a : Fin 2) :
    ((rect64 e t).emb x a).val = off e t a + (x a).val := by
  show off e t a + 1 * (x a).val = _
  omega

/-- One row stored: group `t`'s columns of row `k` done. -/
theorem Done.step {e : EltTy} {v : View sig .scVector .vmem S8x256 e} {G : S8x256.Idx → Elt F e} {f : v.ty.Contents (Elt F)}
    {t : Fin k1_t1_loop.trips} {k : Fin 8} (h : Done v G f t.val k.val) {w : (rect8 k t).shape.Idx → Elt F e}
    (hw : ∀ x, w x = G ((rect8 k t).emb x)) :
    Done v G ((v.slice (rect8 k t)).write (Elt F) f w Finset.univ) t.val (k.val + 1) := by
  intro y hy
  by_cases hm : y ∈ (rect8 k t).set
  · obtain ⟨x, rfl⟩ : ∃ x, (rect8 k t).emb x = y := (rect8 k t).exists_idx_of_mem hm
    rw [View.read_slice_write_emb _ _ _ (Finset.mem_univ x)]
    exact hw x
  · rw [View.read_slice_write_of_not_mem (rect8 k t) _ _ _ (by rwa [Rect.map_emb_univ])]
    refine h y ?_
    rcases hy with hy | ⟨h1, h0⟩
    · exact .inl hy
    · by_cases hk : (y 0).val < k.val
      · exact .inr ⟨h1, hk⟩
      · by_cases ht : (y 1).val < 16 * t.val
        · exact .inl ht
        · refine absurd ?_ hm
          have h00 : (y 0).val = k.val := by omega
          let x : (rect8 k t).shape.Idx := ix2 (n0 := 1) (n1 := 16) 0 ⟨(y 1).val - 16 * t.val, by omega⟩
          have hx : (rect8 k t).emb x = y := by
            funext a
            refine Fin.ext ?_
            rw [emb8_val, off_eq]
            match a with
            | 0 =>
              show k.val + 0 = (y 0).val
              omega
            | 1 =>
              show 16 * t.val + ((y 1).val - 16 * t.val) = (y 1).val
              omega
          rw [← hx]
          exact (rect8 k t).idx_mem x

theorem Done.next {e : EltTy} {v : View sig .scVector .vmem S8x256 e} {G : S8x256.Idx → Elt F e} {f : v.ty.Contents (Elt F)} {t : ℕ}
    (h : Done v G f t 8) : Done v G f (t + 1) 0 := by
  intro y hy
  have h8 : (y 0).val < 8 := (y 0).isLt
  exact h y (by omega)

/-- The rows of lane group `t`. -/
abbrev rowsOf (X : S64x256.Idx → Elt F .f32) (t : Fin k1_t1_loop.trips) (e : Fin 64) : Vec F S1x16 .f32 := fun x => X ((rect64 e t).emb x)

theorem emb64_eq (e : Fin 64) (k : Fin 8) (t : Fin k1_t1_loop.trips) (x : S1x16.Idx) :
    (rect64 e t).emb x = ix2 (n0 := 64) (n1 := 256) e ((rect8 k t).emb x 1) := by
  funext a
  refine Fin.ext ?_
  rw [emb64_val]
  match a with
  | 0 =>
    rw [off_eq]
    have : (x 0).val < 1 := (x 0).isLt
    show e.val + (x 0).val = e.val
    omega
  | 1 =>
    rw [off_eq]
    refine Eq.trans ?_ (emb8_val k t x 1).symm
    rw [off_eq]
    rfl

theorem emb8_zero (k : Fin 8) (t : Fin k1_t1_loop.trips) (x : S1x16.Idx) : (rect8 k t).emb x 0 = k := by
  refine Fin.ext ?_
  rw [emb8_val, off_eq]
  have : (x 0).val < 1 := (x 0).isLt
  show k.val + (x 0).val = k.val
  omega

theorem gate_store (X : S64x256.Idx → Elt F .f32) (t : Fin k1_t1_loop.trips) (k : Fin 8) (x : S1x16.Idx) :
    shapeCast S1x16 (gateVec (winners (rowsOf X t)) k) shapeCasts_S16_S1x16 x = gAt X ((rect8 k t).emb x) := by
  rw [gate_apply]
  unfold gAt
  rw [emb8_zero]
  congr 1
  funext e
  exact congrArg X (emb64_eq e k t x)

theorem idx_store (X : S64x256.Idx → Elt F .f32) (t : Fin k1_t1_loop.trips) (k : Fin 8) (x : S1x16.Idx) :
    shapeCast S1x16 (winners (rowsOf X t) k).2 shapeCasts_S16_S1x16 x = iAt X ((rect8 k t).emb x) := by
  rw [idx_apply]
  unfold iAt
  rw [emb8_zero]
  congr 1
  funext e
  exact congrArg X (emb64_eq e k t x)

section Wp

variable (d : Dev nD) {c : Fin τ.nSC} {s : Fin τ.nSub} (bd : Option 𝒱₀.V)
  {m5 : Memref sig .scVector .vmem S64x256 .f32} {m6 : Memref sig .scVector .vmem S8x256 .f32} {m7 : Memref sig .scVector .vmem S8x256 .i32}

/-- The wp of a tile's program. -/
local notation "wpT" => wp frame (wpE (defs₀ (F := F)) 𝒱₀ (V d c s) bd) Set.univ

/-- A read of one row. -/
theorem wp_loadRow (t : Fin k1_t1_loop.trips) (r : Fin 64) (f : Buf (Elt F) (m5.view.loc (V d c s)))
    {γ : Type} (Kk : Vec F S1x16 .f32 → Prog (TpuEff nD τ sig (Elt F) Λ₀ (.scVector c s)) γ) (Q : γ → sProp 𝕄) :
    (m5.view.loc (V d c s) ↦{fullShare} f)
      ⊢ iprop(((m5.view.loc (V d c s) ↦{fullShare} f) -∗ wpT (Kk (rowsOf (m5.view.read (Elt F) f) t r)) Q)
        -∗ wpT (loadRow m5 t r >>= Kk) Q) :=
  wp_load 𝒱₀ (V d c s) bd Set.univ (Q := Q) (m := m5) (r := (rect64 r t).toLoadRect) (hl := View.loadsAt_vmem h_S1x16) (k := Kk) (f := f)
    (Finset.subset_univ _)

/-- Eight rows read and sorted. -/
theorem wp_groupK (t : Fin k1_t1_loop.trips) (j : Fin 8) (f : Buf (Elt F) (m5.view.loc (V d c s)))
    (Kk : K16 F (Prog (TpuEff nD τ sig (Elt F) Λ₀ (.scVector c s)) PUnit)) (Q : PUnit → sProp 𝕄) :
    (m5.view.loc (V d c s) ↦{fullShare} f)
      ⊢ iprop(((m5.view.loc (V d c s) ↦{fullShare} f) -∗ wpT (app8 Kk (Net.group vcx (entries (rowsOf (m5.view.read (Elt F) f) t)) j)) Q)
        -∗ wpT (groupK m5 t j Kk) Q) := by
  rw [← groupStage_rows]
  unfold groupK loadGroup
  iintro H HK
  iapply (wp_loadRow d bd t _ f) $$ H
  iintro H
  iapply (wp_loadRow d bd t _ f) $$ H
  iintro H
  iapply (wp_loadRow d bd t _ f) $$ H
  iintro H
  iapply (wp_loadRow d bd t _ f) $$ H
  iintro H
  iapply (wp_loadRow d bd t _ f) $$ H
  iintro H
  iapply (wp_loadRow d bd t _ f) $$ H
  iintro H
  iapply (wp_loadRow d bd t _ f) $$ H
  iintro H
  iapply (wp_loadRow d bd t _ f) $$ H
  iintro H
  iapply HK
  iexact H

/-- Eight rows read, sorted and merged. -/
theorem wp_stepK (t : Fin k1_t1_loop.trips) (j : Fin 8) (f : Buf (Elt F) (m5.view.loc (V d c s))) (A : Fin 8 → PV F)
    (Kk : K16 F (Prog (TpuEff nD τ sig (Elt F) Λ₀ (.scVector c s)) PUnit)) (Q : PUnit → sProp 𝕄) :
    (m5.view.loc (V d c s) ↦{fullShare} f)
      ⊢ iprop(((m5.view.loc (V d c s) ↦{fullShare} f)
          -∗ wpT (app8 Kk (Net.merge8 vcx A (Net.group vcx (entries (rowsOf (m5.view.read (Elt F) f) t)) j))) Q)
        -∗ wpT (app8 (stepK m5 t j Kk) A) Q) := by
  rw [← mergeStage_eq]
  exact wp_groupK d bd t j f (fun b0 ib0 b1 ib1 b2 ib2 b3 ib3 b4 ib4 b5 ib5 b6 ib6 b7 ib7 =>
    mergeStage (A 0).1 (A 1).1 (A 2).1 (A 3).1 (A 4).1 (A 5).1 (A 6).1 (A 7).1
      (A 0).2 (A 1).2 (A 2).2 (A 3).2 (A 4).2 (A 5).2 (A 6).2 (A 7).2
      b0 b1 b2 b3 b4 b5 b6 b7 ib0 ib1 ib2 ib3 ib4 ib5 ib6 ib7 Kk) Q

/-- The two results' scratches, done up to row `k` of lane group `t`. -/
def St (m6 : Memref sig .scVector .vmem S8x256 .f32) (m7 : Memref sig .scVector .vmem S8x256 .i32) (X : S64x256.Idx → Elt F .f32) (t k : ℕ) : sProp 𝕄 :=
  iprop((∃ f, ⌜Done m6.view (gAt X) f t k⌝ ∗ m6.view.loc (V d c s) ↦{fullShare} f)
    ∗ (∃ f, ⌜Done m7.view (iAt X) f t k⌝ ∗ m7.view.loc (V d c s) ↦{fullShare} f))

/-- One row of each result stored. -/
theorem wp_storeRow (X : S64x256.Idx → Elt F .f32) (t : Fin k1_t1_loop.trips) (k : Fin 8) :
    St (F := F) d (c := c) (s := s) m6 m7 X t.val k.val
      ⊢ wpT (storeRow m6 m7 t k (gateVec (winners (rowsOf X t)) k) (winners (rowsOf X t) k).2) fun _ => St (F := F) d (c := c) (s := s) m6 m7 X t.val (k.val + 1) := by
  unfold St storeRow
  iintro ⟨⟨%f6, %h6, H6⟩, ⟨%f7, %h7, H7⟩⟩
  iapply (wp_load 𝒱₀ (V d c s) bd Set.univ (m := m6) (r := (rect8 k t).toLoadRect) (hl := View.loadsAt_vmem h_S1x16) (f := f6)
    (Finset.subset_univ _)) $$ H6
  iintro H6
  iapply (wp_store 𝒱₀ (V d c s) bd Set.univ (m := m6) (r := rect8 k t) (Mk := Finset.univ) (hm := .inl rfl) (f := f6)
    (hx := View.stores_vmem_bits_univ h_S1x16 rfl) (w := shapeCast S1x16 (gateVec (winners (rowsOf X t)) k) shapeCasts_S16_S1x16)
    (Finset.subset_univ _)) $$ H6
  iintro H6
  iapply (wp_load 𝒱₀ (V d c s) bd Set.univ (m := m7) (r := (rect8 k t).toLoadRect) (hl := View.loadsAt_vmem h_S1x16) (f := f7)
    (Finset.subset_univ _)) $$ H7
  iintro H7
  iapply (wp_store 𝒱₀ (V d c s) bd Set.univ (m := m7) (r := rect8 k t) (Mk := Finset.univ) (hm := .inl rfl) (f := f7)
    (hx := View.stores_vmem_bits_univ h_S1x16 rfl) (w := shapeCast S1x16 (winners (rowsOf X t) k).2 shapeCasts_S16_S1x16)
    (Finset.subset_univ _)) $$ H7
  iintro H7
  rw [wp_ret]
  imodintro
  isplitl [H6]
  · iexists _
    isplitr
    swap; · iexact H6
    ipureintro
    exact h6.step (gate_store X t k)
  · iexists _
    isplitr
    swap; · iexact H7
    ipureintro
    exact h7.step (idx_store X t k)

/-- The eight rows of each result stored. -/
theorem wp_storeStage (X : S64x256.Idx → Elt F .f32) (t : Fin k1_t1_loop.trips) :
    St (F := F) d (c := c) (s := s) m6 m7 X t.val 0
      ⊢ wpT (app8 (storeStage m6 m7 t) (winners (rowsOf X t))) fun _ => St (F := F) d (c := c) (s := s) m6 m7 X (t.val + 1) 0 := by
  rw [storeStage_eq]
  simp only [wp_bind]
  refine (wp_storeRow d bd X t 0).trans (wp_mono frame _ _ fun _ => ?_)
  refine (wp_storeRow d bd X t 1).trans (wp_mono frame _ _ fun _ => ?_)
  refine (wp_storeRow d bd X t 2).trans (wp_mono frame _ _ fun _ => ?_)
  refine (wp_storeRow d bd X t 3).trans (wp_mono frame _ _ fun _ => ?_)
  refine (wp_storeRow d bd X t 4).trans (wp_mono frame _ _ fun _ => ?_)
  refine (wp_storeRow d bd X t 5).trans (wp_mono frame _ _ fun _ => ?_)
  refine (wp_storeRow d bd X t 6).trans (wp_mono frame _ _ fun _ => ?_)
  refine (wp_storeRow d bd X t 7).trans (wp_mono frame _ _ fun _ => ?_)
  unfold St
  iintro ⟨⟨%f6, %h6, H6⟩, ⟨%f7, %h7, H7⟩⟩
  isplitl [H6]
  · iexists f6
    isplitr; · ipureintro; exact h6.next
    iexact H6
  · iexists f7
    isplitr; · ipureintro; exact h7.next
    iexact H7

/-- One trip of the loop. -/
theorem wp_trip (f : Buf (Elt F) (m5.view.loc (V d c s))) (t : Fin k1_t1_loop.trips) :
    iprop((m5.view.loc (V d c s) ↦{fullShare} f) ∗ St (F := F) d (c := c) (s := s) m6 m7 (m5.view.read (Elt F) f) t.val 0)
      ⊢ wpT (trip m5 m6 m7 t) fun _ => iprop((m5.view.loc (V d c s) ↦{fullShare} f)
          ∗ St (F := F) d (c := c) (s := s) m6 m7 (m5.view.read (Elt F) f) (t.val + 1) 0) := by
  rw [trip_eq]
  iintro ⟨H, Hst⟩
  iapply (wp_groupK d bd t 0 f) $$ H
  iintro H
  iapply (wp_stepK d bd t 1 f) $$ H
  iintro H
  iapply (wp_stepK d bd t 2 f) $$ H
  iintro H
  iapply (wp_stepK d bd t 3 f) $$ H
  iintro H
  iapply (wp_stepK d bd t 4 f) $$ H
  iintro H
  iapply (wp_stepK d bd t 5 f) $$ H
  iintro H
  iapply (wp_stepK d bd t 6 f) $$ H
  iintro H
  iapply (wp_stepK d bd t 7 f) $$ H
  iintro H
  rw [← winners_eq]
  iapply (wp_frame_l frame _ _) $$ [H Hst]
  isplitl [H]; · iexact H
  iapply (wp_storeStage d bd (m5.view.read (Elt F) f) t)
  iexact Hst

end Wp

end Cert.Proof.K
-- ==== Proof.Tile.lean ====
/-
  The SparseCore kernel on one tile, over any buffers of the calls' shapes: from its columns of the logits, its columns
  of the two results at the gates and the experts of those columns.
-/
module

public import proofs.«01_k».proof.Proof.TripWp

@[expose] public section

noncomputable section

namespace Cert.Proof.K

open Cert.KernelIdeal Cert.KernelIdeal.Gen
open Cert.Proof.Trip
open Idealize.ShloMosaic
open Idealize.ShloMosaic.SparseCore.Cfg (HIx)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

abbrev cV (i : grid1.Coords) : Fin τ.nSC := (i 0).castLE hcore1
abbrev jV (i : grid1.Coords) : Fin τ.nSub := (i 1).castLE hsub1

/-- A tile's columns of the logits. -/
abbrev xRect (i : grid1.Coords) : Rect S64x8192 := Rect.unit (s := S64x8192) (k1_off1 i) S64x256.size (k1_off1_inb i)
/-- A tile's columns of a result. -/
abbrev oRect (i : grid1.Coords) : Rect S8x8192 := Rect.unit (s := S8x8192) (k1_off74 i) S8x256.size (k1_off74_inb i)

abbrev xSl (a2 : Memref sig .scVector .hbm S64x8192 .f32) (i : grid1.Coords) : Memref sig .scVector .hbm S64x256 .f32 :=
  a2.slice (xRect i) (fun _ => rfl)
abbrev oSl {e : EltTy} (a : Memref sig .scVector .hbm S8x8192 e) (i : grid1.Coords) : Memref sig .scVector .hbm S8x256 e :=
  a.slice (oRect i) (fun _ => rfl)

section Tile

variable (d : Dev nD) (i : grid1.Coords)
  (a2 : Memref sig .scVector .hbm S64x8192 .f32) (a3 : Memref sig .scVector .hbm S8x8192 .f32) (a4 : Memref sig .scVector .hbm S8x8192 .i32)
  (a5 : Memref sig .scVector .vmem S64x256 .f32) (h5 : a5.IsWhole) (a6 : Memref sig .scVector .vmem S8x256 .f32) (h6 : a6.IsWhole)
  (a7 : Memref sig .scVector .vmem S8x256 .i32) (h7 : a7.IsWhole) (r0 r1 r2 : DmaSems sig S_)

theorem Done.zero {e : EltTy} (v : View sig .scVector .vmem S8x256 e) (G : S8x256.Idx → Elt F e) (f : v.ty.Contents (Elt F)) :
    Done v G f 0 0 := fun y hy => by omega

/-- After the last trip every column is done. -/
theorem Done.all {e : EltTy} {v : View sig .scVector .vmem S8x256 e} {G : S8x256.Idx → Elt F e} {f : v.ty.Contents (Elt F)}
    (h : Done v G f (Scf.trips k1_t1_loop.lb k1_t1_loop.ub k1_t1_loop.st) 0) : v.read (Elt F) f = G :=
  funext fun y => h y (Or.inl ((y 1).isLt.trans_le (by decide)))

/-- The loop's invariant: the scratch of logits at `X`, the results' scratches done up to the trip's lane group. -/
def inv (X : S64x256.Idx → Elt F .f32) (n : ℕ) (_ : PUnit) : sProp 𝕄 :=
  iprop(∃ f, ⌜a5.view.read (Elt F) f = X⌝ ∗ (a5.view.loc (V d (cV i) (jV i)) ↦{fullShare} f)
    ∗ St (F := F) d (c := cV i) (s := jV i) a6 a7 X n 0)

theorem inv_step (X : S64x256.Idx → Elt F .f32) (t : Fin k1_t1_loop.trips) (u : PUnit) :
    inv d i a5 a6 a7 X t.val u
      ⊢ wp frame (wpE (defs₀ (F := F)) 𝒱₀ (V d (cV i) (jV i)) none) Set.univ (trip a5 a6 a7 t) (inv d i a5 a6 a7 X (t.val + 1)) := by
  unfold inv
  iintro ⟨%f, %hf, H⟩
  subst hf
  ihave Hw := (wp_trip d none f t) $$ H
  iapply (wp_wand frame _ _) $$ Hw
  iintro %_ ⟨H5, Hst⟩
  iexists f
  isplitr; · ipureintro; rfl
  isplitl [H5] <;> iassumption

set_option maxHeartbeats 4000000 in
/-- The tile's run. -/
theorem tile_core (O : CellTallies nD τ sig (HIx 4)) (W : Waits sig (HIx 4))
    (fx : Buf (Elt F) ((xSl a2 i).view.loc (V d (cV i) (jV i)))) (fg : Buf (Elt F) ((oSl a3 i).view.loc (V d (cV i) (jV i))))
    (fi : Buf (Elt F) ((oSl a4 i).view.loc (V d (cV i) (jV i))))
    (f5 : Buf (Elt F) (a5.view.loc (V d (cV i) (jV i)))) (f6 : Buf (Elt F) (a6.view.loc (V d (cV i) (jV i))))
    (f7 : Buf (Elt F) (a7.view.loc (V d (cV i) (jV i)))) :
    (iprop(Transfers.MayWaits (V d (cV i) (jV i)) (default : HIx 4) O
        ∗ ((xSl a2 i).view.loc (V d (cV i) (jV i)) ↦[(xSl a2 i).view.set]{fullShare} fx)
        ∗ ((oSl a3 i).view.loc (V d (cV i) (jV i)) ↦[(oSl a3 i).view.set]{fullShare} fg)
        ∗ ((oSl a4 i).view.loc (V d (cV i) (jV i)) ↦[(oSl a4 i).view.set]{fullShare} fi)
        ∗ (a5.view.loc (V d (cV i) (jV i)) ↦{fullShare} f5) ∗ (a6.view.loc (V d (cV i) (jV i)) ↦{fullShare} f6)
        ∗ (a7.view.loc (V d (cV i) (jV i)) ↦{fullShare} f7)
        ∗ semVal (V d (cV i) (jV i), SemLoc.dma r0.sem) 0 ∗ semVal (V d (cV i) (jV i), SemLoc.dma r1.sem) 0 ∗ semVal (V d (cV i) (jV i), SemLoc.dma r2.sem) 0
        ∗ owes (V d (cV i) (jV i)) O W) : sProp 𝕄)
      ⊢ wp frame (wpE (defs₀ (F := F)) 𝒱₀ (V d (cV i) (jV i)) none) Set.univ (scTopk (F := F) i a2 a3 a4 a5 h5 a6 h6 a7 h7 r0 r1 r2)
          fun _ => iprop(((xSl a2 i).view.loc (V d (cV i) (jV i)) ↦[(xSl a2 i).view.set]{fullShare} fx)
            ∗ (∃ f, ⌜(oSl a3 i).view.read (Elt F) f = gAt ((xSl a2 i).view.read (Elt F) fx)⌝
                ∗ (oSl a3 i).view.loc (V d (cV i) (jV i)) ↦[(oSl a3 i).view.set]{fullShare} f)
            ∗ (∃ f, ⌜(oSl a4 i).view.read (Elt F) f = iAt ((xSl a2 i).view.read (Elt F) fx)⌝
                ∗ (oSl a4 i).view.loc (V d (cV i) (jV i)) ↦[(oSl a4 i).view.set]{fullShare} f)
            ∗ (∃ f, a5.view.loc (V d (cV i) (jV i)) ↦{fullShare} f) ∗ (∃ f, a6.view.loc (V d (cV i) (jV i)) ↦{fullShare} f)
            ∗ (∃ f, a7.view.loc (V d (cV i) (jV i)) ↦{fullShare} f)
            ∗ semVal (V d (cV i) (jV i), SemLoc.dma r0.sem) 0 ∗ semVal (V d (cV i) (jV i), SemLoc.dma r1.sem) 0 ∗ semVal (V d (cV i) (jV i), SemLoc.dma r2.sem) 0
            ∗ ∃ W' : Waits sig (HIx 4), ⌜∀ p ∈ W', p ∈ W ∨ p.2 = none⌝ ∗ owes (V d (cV i) (jV i)) O W') := by
  unfold scTopk
  iintro ⟨Hmw, Hx, Hg, Hi, H5, H6, H7, Hs0, Hs1, Hs2, HO⟩
  sl_exec
  sl_for (inv d i a5 a6 a7 ((xSl a2 i).view.read (Elt F) fx)) $$ [H5 H6 H7]
  case region =>
    intro k u
    exact inv_step d i a5 a6 a7 _ k u
  · unfold inv St
    iexists (View.write (Elt F) a5.view f5 ((xSl a2 i).view.read (Elt F) fx) Finset.univ)
    isplitr [H5 H6 H7]
    · ipureintro
      exact View.read_write_univ _ _
    isplitl [H5]; · iexact H5
    isplitl [H6]
    · iexists f6
      isplitr; · ipureintro; exact Done.zero _ _ _
      iassumption
    · iexists f7
      isplitr; · ipureintro; exact Done.zero _ _ _
      iassumption
  unfold inv St
  iintro %_ ⟨%g5, %hg5, H5, ⟨%g6, %hg6, H6⟩, %g7, %hg7, H7⟩
  sl_exec
  sl_step
  isplitl [Hx]; · iexact Hx
  isplitl [Hg]
  · iexists _
    isplitr
    swap; · iexact Hg
    ipureintro
    exact (View.read_writes_whole _ _ _).trans hg6.all
  isplitl [Hi]
  · iexists _
    isplitr
    swap; · iexact Hi
    ipureintro
    exact (View.read_writes_whole _ _ _).trans hg7.all
  isplitl [H5]; · iexists _; iexact H5
  isplitl [H6]; · iexists _; iexact H6
  isplitl [H7]; · iexists _; iexact H7
  isplitl [Hs0]; · iexact Hs0
  isplitl [Hs1]; · iexact Hs1
  isplitl [Hs2]; · iexact Hs2
  iexists _
  isplitr
  swap; · iexact HO
  ipureintro
  intro p hp
  simp only [Finset.mem_insert] at hp
  rcases hp with rfl | rfl | rfl | hp
  · exact Or.inr rfl
  · exact Or.inr rfl
  · exact Or.inr rfl
  · exact Or.inl hp

end Tile

end Cert.Proof.K
-- ==== Proof.Calls.lean ====
/-
  The four SparseCore calls at once: the buffers of each, what the handshakes carry (a SparseCore's, a tile's columns of
  the logits and of the two results, by their values), each tile's obligation, and how columns split and join.
-/
module

public import proofs.«01_k».proof.Proof.Tile
public import Idealize.ShloMosaic.Lib.ViewIndex

@[expose] public section

noncomputable section

namespace Cert.Proof.K

open Cert.KernelIdeal Cert.KernelIdeal.Gen
open Cert.Proof.Trip hiding trips_eq
open Idealize.ShloMosaic
open Idealize.ShloMosaic.ValueIdx (ix2)
open Idealize.ShloMosaic.SparseCore.Cfg (HIx Pay ownBufs ownSems0 ownCells ownRefs mem_ownCells mem_ownRefs)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-! ## Part of a buffer at values -/

section Held

variable {sp : Space} {s : Shape} {e : EltTy} (a : Memref sig .scVector sp s e) (d : Dev nD) (c : Fin τ.nSC) (j : Fin τ.nSub)

/-- The elements `R` of the array `a` names, at the values `X` gives them. -/
def heldAt (R : Finset s.Idx) (X : s.Idx → Elt F e) : sProp 𝕄 :=
  a.view.loc (V d c j) ↦[R.map a.view.emb]{fullShare} a.view.rep X

instance (R : Finset s.Idx) (X : s.Idx → Elt F e) : BI.Storable (upEmb : UEmb _ 𝕄) (heldAt a d c j R X) := by
  unfold heldAt; infer_instance

theorem heldAt_of_read {R : Finset s.Idx} {X : s.Idx → Elt F e} {f : Buf (Elt F) (a.view.loc (V d c j))}
    (h : ∀ y ∈ R, a.view.read (Elt F) f y = X y) :
    (a.view.loc (V d c j) ↦[R.map a.view.emb]{fullShare} f : sProp 𝕄) = heldAt a d c j R X := by
  refine pointsTo_congr fun i hi => ?_
  obtain ⟨y, hy, rfl⟩ := Finset.mem_map.mp hi
  exact View.eq_of_read_eq ((h y hy).trans (congrFun (View.read_rep a.view X) y).symm)

theorem heldAt_congr {R : Finset s.Idx} {X Y : s.Idx → Elt F e} (h : ∀ y ∈ R, X y = Y y) : heldAt a d c j R X = heldAt a d c j R Y :=
  heldAt_of_read a d c j fun y hy => (congrFun (View.read_rep a.view X) y).trans (h y hy)

theorem heldAt_biUnion {ι : Type} [DecidableEq ι] (S : Finset ι) (R : ι → Finset s.Idx)
    (hR : ∀ t ∈ S, ∀ t' ∈ S, t ≠ t' → Disjoint (R t) (R t')) (X : s.Idx → Elt F e) :
    heldAt a d c j (S.biUnion R) X = bigSep S fun t => heldAt a d c j (R t) X := by
  unfold heldAt
  have h := pointsTo_biUnion (ℓ := a.view.loc (V d c j)) (q := fullShare) (f := a.view.rep X) (Ix := HIx 4) (Name := ℕ) (U := UU) (Lvl := ℕ)
    S (fun t => (R t).map a.view.emb) fun t ht t' ht' h => (Finset.disjoint_map _).mpr (hR t ht t' ht' h)
  rw [show (S.biUnion R).map a.view.emb = S.biUnion fun t => (R t).map a.view.emb by
    simp only [Finset.map_eq_image, Finset.biUnion_image]]
  exact h

end Held

/-! ## Columns -/

def coordsV (c : Fin 2) (s : Fin 16) : grid1.Coords :=
  fun | 0 => c | 1 => s | ⟨_ + 2, h⟩ => absurd h (Nat.not_lt.2 (Nat.le_add_left _ _))

abbrev xCols (c : Fin 2) (s : Fin 16) : Finset S64x8192.Idx := (xRect (coordsV c s)).set
abbrev oCols (c : Fin 2) (s : Fin 16) : Finset S8x8192.Idx := (oRect (coordsV c s)).set
abbrev xColsC (c : Fin 2) : Finset S64x8192.Idx := Finset.univ.biUnion (xCols c)
abbrev oColsC (c : Fin 2) : Finset S8x8192.Idx := Finset.univ.biUnion (oCols c)

theorem mem_xCols {c : Fin 2} {s : Fin 16} {y : S64x8192.Idx} :
    y ∈ xCols c s ↔ 512 * s.val + 256 * c.val ≤ (y 1).val ∧ (y 1).val < 512 * s.val + 256 * c.val + 256 := by
  rw [xCols, xRect, Rect.mem_set_unit, k1_off1_eq]
  have h0 : (y 0).val < 64 := (y 0).isLt
  constructor
  · intro h; exact h 1
  · intro h a
    match a with
    | 0 => exact ⟨Nat.zero_le _, show (y 0).val < 0 + 64 by omega⟩
    | 1 => exact h
theorem mem_oCols {c : Fin 2} {s : Fin 16} {y : S8x8192.Idx} :
    y ∈ oCols c s ↔ 512 * s.val + 256 * c.val ≤ (y 1).val ∧ (y 1).val < 512 * s.val + 256 * c.val + 256 := by
  rw [oCols, oRect, Rect.mem_set_unit, k1_off74_eq]
  have h0 : (y 0).val < 8 := (y 0).isLt
  constructor
  · intro h; exact h 1
  · intro h a
    match a with
    | 0 => exact ⟨Nat.zero_le _, show (y 0).val < 0 + 8 by omega⟩
    | 1 => exact h

theorem xCols_disjoint (c : Fin 2) : ∀ s ∈ (Finset.univ : Finset (Fin 16)), ∀ s' ∈ (Finset.univ : Finset (Fin 16)), s ≠ s' → Disjoint (xCols c s) (xCols c s') := by
  intro s _ s' _ h
  rw [Finset.disjoint_left]
  intro y hy hy'
  rw [mem_xCols] at hy hy'
  exact h (Fin.ext (by omega))
theorem oCols_disjoint (c : Fin 2) : ∀ s ∈ (Finset.univ : Finset (Fin 16)), ∀ s' ∈ (Finset.univ : Finset (Fin 16)), s ≠ s' → Disjoint (oCols c s) (oCols c s') := by
  intro s _ s' _ h
  rw [Finset.disjoint_left]
  intro y hy hy'
  rw [mem_oCols] at hy hy'
  exact h (Fin.ext (by omega))

theorem mem_xColsC {c : Fin 2} {y : S64x8192.Idx} : y ∈ xColsC c ↔ (y 1).val % 512 / 256 = c.val := by
  have hy : (y 1).val < 8192 := (y 1).isLt
  simp only [Finset.mem_biUnion, Finset.mem_univ, true_and, mem_xCols]
  constructor
  · rintro ⟨s, hs⟩; omega
  · intro h; exact ⟨⟨(y 1).val / 512, by omega⟩, by simp only; omega⟩
theorem mem_oColsC {c : Fin 2} {y : S8x8192.Idx} : y ∈ oColsC c ↔ (y 1).val % 512 / 256 = c.val := by
  have hy : (y 1).val < 8192 := (y 1).isLt
  simp only [Finset.mem_biUnion, Finset.mem_univ, true_and, mem_oCols]
  constructor
  · rintro ⟨s, hs⟩; omega
  · intro h; exact ⟨⟨(y 1).val / 512, by omega⟩, by simp only; omega⟩

theorem xColsC_disjoint : ∀ s ∈ (Finset.univ : Finset (Fin 2)), ∀ s' ∈ (Finset.univ : Finset (Fin 2)), s ≠ s' → Disjoint (xColsC s) (xColsC s') := by
  intro s _ s' _ h
  rw [Finset.disjoint_left]
  intro y hy hy'
  rw [mem_xColsC] at hy hy'
  exact h (Fin.ext (by omega))
theorem oColsC_disjoint : ∀ s ∈ (Finset.univ : Finset (Fin 2)), ∀ s' ∈ (Finset.univ : Finset (Fin 2)), s ≠ s' → Disjoint (oColsC s) (oColsC s') := by
  intro s _ s' _ h
  rw [Finset.disjoint_left]
  intro y hy hy'
  rw [mem_oColsC] at hy hy'
  exact h (Fin.ext (by omega))
theorem xColsC_cover : (Finset.univ : Finset (Fin 2)).biUnion xColsC = Finset.univ := by
  ext y
  simp only [Finset.mem_biUnion (t := xColsC), Finset.mem_univ, true_and, iff_true, mem_xColsC]
  exact ⟨⟨(y 1).val % 512 / 256, by omega⟩, rfl⟩
theorem oColsC_cover : (Finset.univ : Finset (Fin 2)).biUnion oColsC = Finset.univ := by
  ext y
  simp only [Finset.mem_biUnion (t := oColsC), Finset.mem_univ, true_and, iff_true, mem_oColsC]
  exact ⟨⟨(y 1).val % 512 / 256, by omega⟩, rfl⟩

/-! ## What a call computes of its logits -/

/-- The gates of 8192 tokens, of their logits. -/
def gatesOf (X : S64x8192.Idx → Elt F .f32) (y : S8x8192.Idx) : Elt F .f32 :=
  laneGate (F := F) (fun e => X (ix2 (n0 := 64) (n1 := 8192) e (y 1))) (y 0)
/-- The experts of 8192 tokens, of their logits. -/
def idxsOf (X : S64x8192.Idx → Elt F .f32) (y : S8x8192.Idx) : Elt F .i32 :=
  laneIdx (F := F) (fun e => X (ix2 (n0 := 64) (n1 := 8192) e (y 1))) (y 0)

theorem col_eq (i : grid1.Coords) (e : Fin 64) (y : S8x256.Idx) :
    (xRect i).emb (ix2 (n0 := 64) (n1 := 256) e (y 1)) = ix2 (n0 := 64) (n1 := 8192) e ((oRect i).emb y 1) := by
  funext a
  refine Fin.ext ?_
  match a with
  | 0 =>
    show k1_off1 i 0 + 1 * e.val = e.val
    rw [k1_off1_eq]
    show 0 + 1 * e.val = e.val
    omega
  | 1 =>
    show k1_off1 i 1 + 1 * (y 1).val = k1_off74 i 1 + 1 * (y 1).val
    rw [k1_off1_eq, k1_off74_eq]
theorem row_eq (i : grid1.Coords) (y : S8x256.Idx) : (oRect i).emb y 0 = y 0 := by
  refine Fin.ext ?_
  show k1_off74 i 0 + 1 * (y 0).val = (y 0).val
  rw [k1_off74_eq]
  show 0 + 1 * (y 0).val = (y 0).val
  omega

/-- A tile on columns held by their values. -/
theorem tile_at (d : Dev nD) (i : grid1.Coords)
    (a2 : Memref sig .scVector .hbm S64x8192 .f32) (a3 : Memref sig .scVector .hbm S8x8192 .f32) (a4 : Memref sig .scVector .hbm S8x8192 .i32)
    (a5 : Memref sig .scVector .vmem S64x256 .f32) (h5 : a5.IsWhole) (a6 : Memref sig .scVector .vmem S8x256 .f32) (h6 : a6.IsWhole)
    (a7 : Memref sig .scVector .vmem S8x256 .i32) (h7 : a7.IsWhole) (r0 r1 r2 : DmaSems sig S_)
    (O : CellTallies nD τ sig (HIx 4)) (W : Waits sig (HIx 4)) (X : S64x8192.Idx → Elt F .f32) (G0 : S8x8192.Idx → Elt F .f32) (I0 : S8x8192.Idx → Elt F .i32) :
    (iprop(Transfers.MayWaits (V d (cV i) (jV i)) (default : HIx 4) O
        ∗ heldAt a2 d (cV i) (jV i) (xRect i).set X ∗ heldAt a3 d (cV i) (jV i) (oRect i).set G0 ∗ heldAt a4 d (cV i) (jV i) (oRect i).set I0
        ∗ (∃ f, a5.view.loc (V d (cV i) (jV i)) ↦{fullShare} f) ∗ (∃ f, a6.view.loc (V d (cV i) (jV i)) ↦{fullShare} f)
        ∗ (∃ f, a7.view.loc (V d (cV i) (jV i)) ↦{fullShare} f)
        ∗ semVal (V d (cV i) (jV i), SemLoc.dma r0.sem) 0 ∗ semVal (V d (cV i) (jV i), SemLoc.dma r1.sem) 0 ∗ semVal (V d (cV i) (jV i), SemLoc.dma r2.sem) 0
        ∗ owes (V d (cV i) (jV i)) O W) : sProp 𝕄)
      ⊢ wp frame (wpE (defs₀ (F := F)) 𝒱₀ (V d (cV i) (jV i)) none) Set.univ (scTopk (F := F) i a2 a3 a4 a5 h5 a6 h6 a7 h7 r0 r1 r2)
          fun _ => iprop((heldAt a2 d (cV i) (jV i) (xRect i).set X ∗ heldAt a3 d (cV i) (jV i) (oRect i).set (gatesOf X)
              ∗ heldAt a4 d (cV i) (jV i) (oRect i).set (idxsOf X))
            ∗ (∃ f, a5.view.loc (V d (cV i) (jV i)) ↦{fullShare} f) ∗ (∃ f, a6.view.loc (V d (cV i) (jV i)) ↦{fullShare} f)
            ∗ (∃ f, a7.view.loc (V d (cV i) (jV i)) ↦{fullShare} f)
            ∗ semVal (V d (cV i) (jV i), SemLoc.dma r0.sem) 0 ∗ semVal (V d (cV i) (jV i), SemLoc.dma r1.sem) 0 ∗ semVal (V d (cV i) (jV i), SemLoc.dma r2.sem) 0
            ∗ ∃ W' : Waits sig (HIx 4), ⌜∀ p ∈ W', p ∈ W ∨ p.2 = none⌝ ∗ owes (V d (cV i) (jV i)) O W') := by
  have hset {e : EltTy} {s : Shape} (a : Memref sig .scVector .hbm s e) (r : Rect s) (h : ∀ x, r.stride x = 1) :
      (a.slice r h).view.set = r.set.map a.view.emb := View.set_slice _ _
  have hX : (xSl a2 i).view.read (Elt F) (a2.view.rep X) = fun z => X ((xRect i).emb z) :=
    funext fun z => congrFun (View.read_rep a2.view X) ((xRect i).emb z)
  have hG : gAt ((xSl a2 i).view.read (Elt F) (a2.view.rep X)) = fun y => gatesOf X ((oRect i).emb y) := by
    funext y
    rw [hX, gAt, gatesOf, row_eq]
    simp only [col_eq]
  have hI : iAt ((xSl a2 i).view.read (Elt F) (a2.view.rep X)) = fun y => idxsOf X ((oRect i).emb y) := by
    funext y
    rw [hX, iAt, idxsOf, row_eq]
    simp only [col_eq]
  have hback {e : EltTy} (a : Memref sig .scVector .hbm S8x8192 e) (G : S8x8192.Idx → Elt F e) (f : Buf (Elt F) ((oSl a i).view.loc (V d (cV i) (jV i))))
      (hf : (oSl a i).view.read (Elt F) f = fun y => G ((oRect i).emb y)) :
      ((oSl a i).view.loc (V d (cV i) (jV i)) ↦[(oSl a i).view.set]{fullShare} f : sProp 𝕄) = heldAt a d (cV i) (jV i) (oRect i).set G := by
    rw [← heldAt_of_read (f := f) a d (cV i) (jV i) (R := (oRect i).set) (X := G), hset a (oRect i) fun _ => rfl]
    intro y hy
    obtain ⟨x, rfl⟩ : ∃ x, (oRect i).emb x = y := (oRect i).exists_idx_of_mem hy
    exact congrFun hf x
  have hx : heldAt a2 d (cV i) (jV i) (xRect i).set X = ((xSl a2 i).view.loc (V d (cV i) (jV i)) ↦[(xSl a2 i).view.set]{fullShare} a2.view.rep X : sProp 𝕄) := by
    rw [heldAt, ← hset a2 (xRect i) fun _ => rfl]
  have ho {e : EltTy} (a : Memref sig .scVector .hbm S8x8192 e) (G : S8x8192.Idx → Elt F e) :
      heldAt a d (cV i) (jV i) (oRect i).set G = ((oSl a i).view.loc (V d (cV i) (jV i)) ↦[(oSl a i).view.set]{fullShare} a.view.rep G : sProp 𝕄) := by
    rw [heldAt, ← hset a (oRect i) fun _ => rfl]
  rw [hx, ho a3 G0, ho a4 I0]
  iintro ⟨Hmw, Hx, Hg, Hi, ⟨%f5, H5⟩, ⟨%f6, H6⟩, ⟨%f7, H7⟩, Hs0, Hs1, Hs2, HO⟩
  ihave Hw := (tile_core d i a2 a3 a4 a5 h5 a6 h6 a7 h7 r0 r1 r2 O W (a2.view.rep X) (a3.view.rep G0) (a4.view.rep I0) f5 f6 f7) $$ [Hmw Hx Hg Hi H5 H6 H7 Hs0 Hs1 Hs2 HO]
  · isplitl [Hmw]; · iexact Hmw
    isplitl [Hx]; · iexact Hx
    isplitl [Hg]; · iexact Hg
    isplitl [Hi]; · iexact Hi
    isplitl [H5]; · iexact H5
    isplitl [H6]; · iexact H6
    isplitl [H7]; · iexact H7
    isplitl [Hs0]; · iexact Hs0
    isplitl [Hs1]; · iexact Hs1
    isplitl [Hs2]; · iexact Hs2
    iexact HO
  iapply (wp_wand frame _ _) $$ Hw
  iintro %_ ⟨Hx, ⟨%fg, %hg, Hg⟩, ⟨%fi, %hi, Hi⟩, H⟩
  isplitr [H]
  · isplitl [Hx]; · iexact Hx
    isplitl [Hg]
    · rw [← hback a3 _ fg (hg.trans hG)]; iexact Hg
    · rw [← hback a4 _ fi (hi.trans hI)]; iexact Hi
  iexact H

end Cert.Proof.K
-- ==== Proof.Pay.lean ====
/-
  What the handshakes of the four SparseCore calls carry, each tile's obligation, and how a call's columns split
  between its tiles and join again.
-/
module

public import proofs.«01_k».proof.Proof.Calls

@[expose] public section

noncomputable section

namespace Cert.Proof.K

open Cert.KernelIdeal Cert.KernelIdeal.Gen
open Cert.Proof.Trip hiding trips_eq
open Idealize.ShloMosaic
open Idealize.ShloMosaic.SparseCore.Cfg (HIx Pay ownBufs ownSems0 ownCells ownRefs mem_ownCells mem_ownRefs)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-! ## The buffers of each call -/

/-- The logits of call `q`. -/
abbrev xM : Fin 4 → Memref sig .scVector .hbm S64x8192 .f32
  | 0 => .whole main_v1_scv | 1 => .whole main_v4_scv | 2 => .whole main_v7_scv | 3 => .whole main_v10_scv
/-- The gates of call `q`. -/
abbrev gM : Fin 4 → Memref sig .scVector .hbm S8x8192 .f32
  | 0 => .whole main_v2_0_scv | 1 => .whole main_v5_0_scv | 2 => .whole main_v8_0_scv | 3 => .whole main_v11_0_scv
/-- The experts of call `q`. -/
abbrev iM : Fin 4 → Memref sig .scVector .hbm S8x8192 .i32
  | 0 => .whole main_v2_1_scv | 1 => .whole main_v5_1_scv | 2 => .whole main_v8_1_scv | 3 => .whole main_v11_1_scv
/-- A tile's scratch of logits in call `q`. -/
abbrev s5 : Fin 4 → Memref sig .scVector .vmem S64x256 .f32
  | 0 => .whole cc1_scratch0 | 1 => .whole cc3_scratch0 | 2 => .whole cc5_scratch0 | 3 => .whole cc7_scratch0
/-- A tile's scratch of gates in call `q`. -/
abbrev s6 : Fin 4 → Memref sig .scVector .vmem S8x256 .f32
  | 0 => .whole cc1_scratch1 | 1 => .whole cc3_scratch1 | 2 => .whole cc5_scratch1 | 3 => .whole cc7_scratch1
/-- A tile's scratch of experts in call `q`. -/
abbrev s7 : Fin 4 → Memref sig .scVector .vmem S8x256 .i32
  | 0 => .whole cc1_scratch2 | 1 => .whole cc3_scratch2 | 2 => .whole cc5_scratch2 | 3 => .whole cc7_scratch2
/-- The three semaphores of call `q`. -/
abbrev sem0 : Fin 4 → DmaSems sig S_ | 0 => cc1_scoped0 | 1 => cc3_scoped0 | 2 => cc5_scoped0 | 3 => cc7_scoped0
abbrev sem1 : Fin 4 → DmaSems sig S_ | 0 => cc1_scoped1 | 1 => cc3_scoped1 | 2 => cc5_scoped1 | 3 => cc7_scoped1
abbrev sem2 : Fin 4 → DmaSems sig S_ | 0 => cc1_scoped2 | 1 => cc3_scoped2 | 2 => cc5_scoped2 | 3 => cc7_scoped2

theorem hs5 : ∀ q, (s5 q).IsWhole
  | 0 => Memref.isWhole_whole _ | 1 => Memref.isWhole_whole _ | 2 => Memref.isWhole_whole _ | 3 => Memref.isWhole_whole _
theorem hs6 : ∀ q, (s6 q).IsWhole
  | 0 => Memref.isWhole_whole _ | 1 => Memref.isWhole_whole _ | 2 => Memref.isWhole_whole _ | 3 => Memref.isWhole_whole _
theorem hs7 : ∀ q, (s7 q).IsWhole
  | 0 => Memref.isWhole_whole _ | 1 => Memref.isWhole_whole _ | 2 => Memref.isWhole_whole _ | 3 => Memref.isWhole_whole _

/-- The first tile, by which the handshakes name the arrays in shared memory. -/
abbrev c0 : Fin τ.nSC := ⟨0, by decide⟩
abbrev j0 : Fin τ.nSub := ⟨0, by decide⟩

theorem x_thread (d : Dev nD) (c : Fin τ.nSC) (j : Fin τ.nSub) (R : Finset S64x8192.Idx) (X : S64x8192.Idx → Elt F .f32) :
    ∀ q, heldAt (F := F) (xM q) d c j R X = heldAt (xM q) d c0 j0 R X
  | 0 => rfl | 1 => rfl | 2 => rfl | 3 => rfl
theorem g_thread (d : Dev nD) (c : Fin τ.nSC) (j : Fin τ.nSub) (R : Finset S8x8192.Idx) (X : S8x8192.Idx → Elt F .f32) :
    ∀ q, heldAt (F := F) (gM q) d c j R X = heldAt (gM q) d c0 j0 R X
  | 0 => rfl | 1 => rfl | 2 => rfl | 3 => rfl
theorem i_thread (d : Dev nD) (c : Fin τ.nSC) (j : Fin τ.nSub) (R : Finset S8x8192.Idx) (X : S8x8192.Idx → Elt F .i32) :
    ∀ q, heldAt (F := F) (iM q) d c j R X = heldAt (iM q) d c0 j0 R X
  | 0 => rfl | 1 => rfl | 2 => rfl | 3 => rfl

/-- The three arrays of call `q` on given columns, at given values. -/
def colsAt (q : Fin 4) (d : Dev nD) (R : Finset S64x8192.Idx) (R' : Finset S8x8192.Idx)
    (X : S64x8192.Idx → Elt F .f32) (G : S8x8192.Idx → Elt F .f32) (I : S8x8192.Idx → Elt F .i32) : sProp 𝕄 :=
  iprop(heldAt (xM q) d c0 j0 R X ∗ heldAt (gM q) d c0 j0 R' G ∗ heldAt (iM q) d c0 j0 R' I)

instance (q : Fin 4) (d : Dev nD) (R : Finset S64x8192.Idx) (R' : Finset S8x8192.Idx)
    (X : S64x8192.Idx → Elt F .f32) (G : S8x8192.Idx → Elt F .f32) (I : S8x8192.Idx → Elt F .i32) :
    BI.Storable (upEmb : UEmb _ 𝕄) (colsAt q d R R' X G I) := by
  unfold colsAt; infer_instance

theorem colsAt_biUnion {n : ℕ} (q : Fin 4) (d : Dev nD) (R : Fin n → Finset S64x8192.Idx) (R' : Fin n → Finset S8x8192.Idx)
    (hR : ∀ t ∈ Finset.univ, ∀ t' ∈ Finset.univ, t ≠ t' → Disjoint (R t) (R t'))
    (hR' : ∀ t ∈ Finset.univ, ∀ t' ∈ Finset.univ, t ≠ t' → Disjoint (R' t) (R' t'))
    (X : S64x8192.Idx → Elt F .f32) (G : S8x8192.Idx → Elt F .f32) (I : S8x8192.Idx → Elt F .i32) :
    colsAt q d (Finset.univ.biUnion R) (Finset.univ.biUnion R') X G I = bigSep Finset.univ fun t => colsAt q d (R t) (R' t) X G I := by
  unfold colsAt
  rw [heldAt_biUnion _ _ _ _ _ _ hR, heldAt_biUnion _ _ _ _ _ _ hR', heldAt_biUnion _ _ _ _ _ _ hR', bigSep_sep', bigSep_sep']

/-! ## What the handshakes carry -/

theorem nCore_eq : ∀ q, (K (F := F)).nCore q = 2 | 0 => rfl | 1 => rfl | 2 => rfl | 3 => rfl
theorem nSub_eq : ∀ q, (K (F := F)).nSub q = 16 | 0 => rfl | 1 => rfl | 2 => rfl | 3 => rfl

/-- What the calls find: their logits, and what their results' arrays hold before. -/
structure Found (F : FTy → Type) where
  X : Fin 4 → Dev nD → S64x8192.Idx → Elt F .f32
  G : Fin 4 → Dev nD → S8x8192.Idx → Elt F .f32
  I : Fin 4 → Dev nD → S8x8192.Idx → Elt F .i32

variable (v : Found F)

/-- Each call hands a SparseCore, and that each tile, its columns, and gets them back with the gates and the experts. -/
def P : (K (F := F)).Pay (nD := nD) (Val := Elt F) (Name := ℕ) (U := UU) where
  st q d c := colsAt q d (xColsC (c.cast (nCore_eq (F := F) q))) (oColsC (c.cast (nCore_eq (F := F) q))) (v.X q d) (v.G q d) (v.I q d)
  dn q d c := colsAt q d (xColsC (c.cast (nCore_eq (F := F) q))) (oColsC (c.cast (nCore_eq (F := F) q))) (v.X q d) (gatesOf (v.X q d)) (idxsOf (v.X q d))
  go q d c i := colsAt q d (xCols (c.cast (nCore_eq (F := F) q)) (i.cast (nSub_eq (F := F) q))) (oCols (c.cast (nCore_eq (F := F) q)) (i.cast (nSub_eq (F := F) q)))
    (v.X q d) (v.G q d) (v.I q d)
  td q d c i := colsAt q d (xCols (c.cast (nCore_eq (F := F) q)) (i.cast (nSub_eq (F := F) q))) (oCols (c.cast (nCore_eq (F := F) q)) (i.cast (nSub_eq (F := F) q)))
    (v.X q d) (gatesOf (v.X q d)) (idxsOf (v.X q d))
  x := fun _ _ => iprop(emp)

instance P_storable : (P (F := F) v).IsStorable where
  st q d c := by unfold P; infer_instance
  dn q d c := by unfold P; infer_instance
  go q d c i := by unfold P; infer_instance
  td q d c i := by unfold P; infer_instance

/-! ## The columns split and join -/

theorem vecSplit (q : Fin 4) : (K (F := F)).VecSplit' (P v) q := by
  intro d c
  have h (X : S64x8192.Idx → Elt F .f32) (G : S8x8192.Idx → Elt F .f32) (I : S8x8192.Idx → Elt F .i32) :
      colsAt q d (xColsC (c.cast (nCore_eq (F := F) q))) (oColsC (c.cast (nCore_eq (F := F) q))) X G I
        = bigSep Finset.univ fun i : Fin ((K (F := F)).nSub q) =>
            colsAt q d (xCols (c.cast (nCore_eq (F := F) q)) (i.cast (nSub_eq (F := F) q))) (oCols (c.cast (nCore_eq (F := F) q)) (i.cast (nSub_eq (F := F) q))) X G I := by
    rw [colsAt_biUnion q d _ _ (xCols_disjoint _) (oCols_disjoint _)]
    exact (bigSep_univ_equiv (finCongr (nSub_eq (F := F) q)) _)
  show colsAt q d _ _ _ _ _ ⊢ |={Set.univ}=> iprop((bigSep Finset.univ fun i : Fin ((K (F := F)).nSub q) => colsAt q d _ _ _ _ _)
      ∗ ((bigSep Finset.univ fun i : Fin ((K (F := F)).nSub q) => colsAt q d _ _ _ _ _) -∗ colsAt q d _ _ _ _ _))
  rw [h, h]
  iintro H; imodintro
  isplitl [H]; · iexact H
  iintro H; iexact H

/-- Before a call, its arrays whole are its two SparseCores' columns. -/
theorem st_eq (q : Fin 4) (d : Dev nD) :
    (bigSep Finset.univ fun c : Fin ((K (F := F)).nCore q) => (P v).st q d c : sProp 𝕄) = colsAt q d Finset.univ Finset.univ (v.X q d) (v.G q d) (v.I q d) := by
  rw [← xColsC_cover, ← oColsC_cover, colsAt_biUnion q d _ _ xColsC_disjoint oColsC_disjoint]
  exact (bigSep_univ_equiv (finCongr (nCore_eq (F := F) q)) (fun c => colsAt q d (xColsC c) (oColsC c) (v.X q d) (v.G q d) (v.I q d))).symm
/-- and after it. -/
theorem dn_eq (q : Fin 4) (d : Dev nD) :
    (bigSep Finset.univ fun c : Fin ((K (F := F)).nCore q) => (P v).dn q d c : sProp 𝕄)
      = colsAt q d Finset.univ Finset.univ (v.X q d) (gatesOf (v.X q d)) (idxsOf (v.X q d)) := by
  rw [← xColsC_cover, ← oColsC_cover, colsAt_biUnion q d _ _ xColsC_disjoint oColsC_disjoint]
  exact (bigSep_univ_equiv (finCongr (nCore_eq (F := F) q)) (fun c => colsAt q d (xColsC c) (oColsC c) (v.X q d) (gatesOf (v.X q d)) (idxsOf (v.X q d)))).symm

/-! ## A tile's own storage -/

theorem ownBufs_three (d : Dev nD) (c : Fin τ.nSC) (j : Fin τ.nSub) (b0 b1 b2 : Ref sig .scVector)
    (h0 : ((Proc.scVector c j : Proc τ).devRef b0).owner = .proc (.scVector c j)) (h1 : ((Proc.scVector c j : Proc τ).devRef b1).owner = .proc (.scVector c j))
    (h2 : ((Proc.scVector c j : Proc τ).devRef b2).owner = .proc (.scVector c j)) (h01 : b1 ≠ b0) (h02 : b2 ≠ b0) (h12 : b2 ≠ b1) :
    ∃ R : sProp 𝕄, (ownBufs (V d c j) : sProp 𝕄)
      = iprop((∃ f, (V d c j).loc b0 ↦{fullShare} f) ∗ (∃ f, (V d c j).loc b1 ↦{fullShare} f) ∗ (∃ f, (V d c j).loc b2 ↦{fullShare} f) ∗ R) := by
  unfold SparseCore.Cfg.ownBufs
  exact ⟨_, (SparseCore.bigSep_erase' (SparseCore.Cfg.mem_ownRefs_of_owner (p := Proc.scVector c j) h0)).trans (by
    rw [SparseCore.bigSep_erase' (Finset.mem_erase.mpr ⟨fun e => h01 (Proc.devRef_injective _ e), SparseCore.Cfg.mem_ownRefs_of_owner (p := Proc.scVector c j) h1⟩),
      SparseCore.bigSep_erase' (Finset.mem_erase.mpr ⟨fun e => h12 (Proc.devRef_injective _ e),
        Finset.mem_erase.mpr ⟨fun e => h02 (Proc.devRef_injective _ e), SparseCore.Cfg.mem_ownRefs_of_owner (p := Proc.scVector c j) h2⟩⟩)])⟩

theorem ownBufs_call (d : Dev nD) (c : Fin τ.nSC) (j : Fin τ.nSub) : ∀ q, ∃ R : sProp 𝕄, (ownBufs (V d c j) : sProp 𝕄)
      = iprop((∃ f, (s5 q).view.loc (V d c j) ↦{fullShare} f) ∗ (∃ f, (s6 q).view.loc (V d c j) ↦{fullShare} f)
          ∗ (∃ f, (s7 q).view.loc (V d c j) ↦{fullShare} f) ∗ R)
  | 0 => ownBufs_three d c j cc1_scratch0 cc1_scratch1 cc1_scratch2 rfl rfl rfl (by decide) (by decide) (by decide)
  | 1 => ownBufs_three d c j cc3_scratch0 cc3_scratch1 cc3_scratch2 rfl rfl rfl (by decide) (by decide) (by decide)
  | 2 => ownBufs_three d c j cc5_scratch0 cc5_scratch1 cc5_scratch2 rfl rfl rfl (by decide) (by decide) (by decide)
  | 3 => ownBufs_three d c j cc7_scratch0 cc7_scratch1 cc7_scratch2 rfl rfl rfl (by decide) (by decide) (by decide)

theorem ownSems_three (d : Dev nD) (c : Fin τ.nSC) (j : Fin τ.nSub) (l0 l1 l2 : SemLoc sig)
    (h0 : l0.isScoped .scVector = true) (h1 : l1.isScoped .scVector = true) (h2 : l2.isScoped .scVector = true)
    (h01 : l1 ≠ l0) (h02 : l2 ≠ l0) (h12 : l2 ≠ l1) :
    ∃ R : sProp 𝕄, (ownSems0 (V d c j) : sProp 𝕄)
      = iprop(semVal (V d c j, l0) 0 ∗ semVal (V d c j, l1) 0 ∗ semVal (V d c j, l2) 0 ∗ R) := by
  unfold SparseCore.Cfg.ownSems0
  exact ⟨_, by
    rw [SparseCore.bigSep_erase' ((mem_ownCells (g := (V d c j, l0))).mpr ⟨rfl, h0⟩),
      SparseCore.bigSep_erase' (Finset.mem_erase.mpr ⟨fun e => h01 (congrArg Prod.snd e), (mem_ownCells (g := (V d c j, l1))).mpr ⟨rfl, h1⟩⟩),
      SparseCore.bigSep_erase' (Finset.mem_erase.mpr ⟨fun e => h12 (congrArg Prod.snd e), Finset.mem_erase.mpr ⟨fun e => h02 (congrArg Prod.snd e),
        (mem_ownCells (g := (V d c j, l2))).mpr ⟨rfl, h2⟩⟩⟩)]⟩

theorem sems_scoped : ∀ q, (SemLoc.dma (sem0 q).sem : SemLoc sig).isScoped .scVector = true ∧ (SemLoc.dma (sem1 q).sem : SemLoc sig).isScoped .scVector = true
    ∧ (SemLoc.dma (sem2 q).sem : SemLoc sig).isScoped .scVector = true := by decide
theorem sems_ne : ∀ q, (sem1 q).sem ≠ (sem0 q).sem ∧ (sem2 q).sem ≠ (sem0 q).sem ∧ (sem2 q).sem ≠ (sem1 q).sem := by decide

theorem ownSems_call (d : Dev nD) (c : Fin τ.nSC) (j : Fin τ.nSub) (q : Fin 4) : ∃ R : sProp 𝕄, (ownSems0 (V d c j) : sProp 𝕄)
      = iprop(semVal (V d c j, SemLoc.dma (sem0 q).sem) 0 ∗ semVal (V d c j, SemLoc.dma (sem1 q).sem) 0 ∗ semVal (V d c j, SemLoc.dma (sem2 q).sem) 0 ∗ R) :=
  ownSems_three d c j _ _ _ (sems_scoped q).1 (sems_scoped q).2.1 (sems_scoped q).2.2
    (fun e => (sems_ne q).1 (SemLoc.dma.inj e)) (fun e => (sems_ne q).2.1 (SemLoc.dma.inj e)) (fun e => (sems_ne q).2.2 (SemLoc.dma.inj e))

/-! ## A tile's obligation -/

set_option maxHeartbeats 1000000 in
theorem tile_body (q : Fin 4) (d : Dev nD) (c : Fin 2) (s : Fin 16) (O : CellTallies nD τ sig (HIx 4)) (W : Waits sig (HIx 4)) (hO : ∀ g, O g none = 0) :
    (iprop(levAts (K (F := F)).L (K (F := F)).lev ∗ emp
        ∗ colsAt q d (xCols c s) (oCols c s) (v.X q d) (v.G q d) (v.I q d)
        ∗ scopedBufs (V d (cV (coordsV c s)) (jV (coordsV c s))) ∗ scopedSems0 (V d (cV (coordsV c s)) (jV (coordsV c s)))
        ∗ owes (V d (cV (coordsV c s)) (jV (coordsV c s))) O W) : sProp 𝕄)
      ⊢ wp frame (wpE (defs₀ (F := F)) 𝒱₀ (V d (cV (coordsV c s)) (jV (coordsV c s))) none) Set.univ
          (scTopk (F := F) (coordsV c s) (xM q) (gM q) (iM q) (s5 q) (hs5 q) (s6 q) (hs6 q) (s7 q) (hs7 q) (sem0 q) (sem1 q) (sem2 q))
          fun _ => iprop(colsAt q d (xCols c s) (oCols c s) (v.X q d) (gatesOf (v.X q d)) (idxsOf (v.X q d))
            ∗ scopedBufs (V d (cV (coordsV c s)) (jV (coordsV c s))) ∗ scopedSems0 (V d (cV (coordsV c s)) (jV (coordsV c s)))
            ∗ ∃ W' : Waits sig (HIx 4), ⌜∀ p ∈ W', p ∈ W ∨ p.2 = none ∨ SparseCore.Cfg.Blocks.blk q p.2⌝ ∗ owes (V d (cV (coordsV c s)) (jV (coordsV c s))) O W') := by
  obtain ⟨RB, hRB⟩ := ownBufs_call (F := F) d (cV (coordsV c s)) (jV (coordsV c s)) q
  obtain ⟨RS, hRS⟩ := ownSems_call (F := F) d (cV (coordsV c s)) (jV (coordsV c s)) q
  rw [(K (F := F)).scopedBufs_V facts d (cV (coordsV c s)) (jV (coordsV c s)), SparseCore.Cfg.scopedSems0_V (Val := Elt F) d (cV (coordsV c s)) (jV (coordsV c s)),
    hRB, hRS]
  unfold colsAt
  rw [← x_thread d (cV (coordsV c s)) (jV (coordsV c s)), ← g_thread d (cV (coordsV c s)) (jV (coordsV c s)), ← i_thread d (cV (coordsV c s)) (jV (coordsV c s)),
    ← g_thread d (cV (coordsV c s)) (jV (coordsV c s)), ← i_thread d (cV (coordsV c s)) (jV (coordsV c s))]
  iintro ⟨#Hlv, -, ⟨Hx, Hg, Hi⟩, ⟨H5, H6, H7, HB⟩, ⟨H0, H1, H2, HS⟩, HO⟩
  ihave Hmw := (show levAts (K (F := F)).L (K (F := F)).lev ⊢ Transfers.MayWaits (V d (cV (coordsV c s)) (jV (coordsV c s))) (default : HIx 4) O from
    (K (F := F)).mayWaits_none (thr := V d (cV (coordsV c s)) (jV (coordsV c s))) hO) $$ Hlv
  ihave Hw := (tile_at d (coordsV c s) (xM q) (gM q) (iM q) (s5 q) (hs5 q) (s6 q) (hs6 q) (s7 q) (hs7 q) (sem0 q) (sem1 q) (sem2 q) O W
    (v.X q d) (v.G q d) (v.I q d)) $$ [Hmw Hx Hg Hi H5 H6 H7 H0 H1 H2 HO]
  · isplitl [Hmw]; · iexact Hmw
    isplitl [Hx]; · iexact Hx
    isplitl [Hg]; · iexact Hg
    isplitl [Hi]; · iexact Hi
    isplitl [H5]; · iexact H5
    isplitl [H6]; · iexact H6
    isplitl [H7]; · iexact H7
    isplitl [H0]; · iexact H0
    isplitl [H1]; · iexact H1
    isplitl [H2]; · iexact H2
    iexact HO
  iapply (wp_wand frame _ _) $$ Hw
  iintro %_ ⟨Hc, H5, H6, H7, H0, H1, H2, %W', %hW', HO⟩
  isplitl [Hc]; · iexact Hc
  isplitl [H5 H6 H7 HB]
  · isplitl [H5]; · iexact H5
    isplitl [H6]; · iexact H6
    isplitl [H7]; · iexact H7
    iexact HB
  isplitl [H0 H1 H2 HS]
  · isplitl [H0]; · iexact H0
    isplitl [H1]; · iexact H1
    isplitl [H2]; · iexact H2
    iexact HS
  iexists W'
  isplitr
  · ipureintro; exact fun p hp => (hW' p hp).imp_right Or.inl
  · iexact HO

/-- A tile's kernel in call `q`, as the call dispatches it. -/
theorem call_body (q : Fin 4) (d : Dev nD) (c : Fin ((K (F := F)).nCore q)) (i : Fin ((K (F := F)).nSub q)) (O : CellTallies nD τ sig (HIx 4)) (W : Waits sig (HIx 4))
    (hO : ∀ g, O g none = 0) :
    (iprop(levAts (K (F := F)).L (K (F := F)).lev ∗ (P v).x q (V d ((K (F := F)).core q c) ((K (F := F)).sub q i)) ∗ (P v).go q d c i
        ∗ scopedBufs (V d ((K (F := F)).core q c) ((K (F := F)).sub q i)) ∗ scopedSems0 (V d ((K (F := F)).core q c) ((K (F := F)).sub q i))
        ∗ owes (V d ((K (F := F)).core q c) ((K (F := F)).sub q i)) (O + (P v).ox q (V d ((K (F := F)).core q c) ((K (F := F)).sub q i))) W) : sProp 𝕄)
      ⊢ wp frame (wpE (D (F := F)) 𝒱 (V d ((K (F := F)).core q c) ((K (F := F)).sub q i)) (some v₀)) Set.univ
          (Pipeline.liftProg (SparseCore.onTile hcore1 hsub1 (fun c s => scTopk (F := F) (coordsV c s) (xM q) (gM q) (iM q) (s5 q) (hs5 q) (s6 q) (hs6 q) (s7 q) (hs7 q)
            (sem0 q) (sem1 q) (sem2 q)) ⟨⟩ ((K (F := F)).core q c) ((K (F := F)).sub q i)))
          fun _ => iprop((P v).td q d c i ∗ scopedBufs (V d ((K (F := F)).core q c) ((K (F := F)).sub q i))
            ∗ scopedSems0 (V d ((K (F := F)).core q c) ((K (F := F)).sub q i))
            ∗ ∃ W' : Waits sig (HIx 4), ⌜∀ p ∈ W', p ∈ W ∨ p.2 = none ∨ SparseCore.Cfg.Blocks.blk q p.2⌝ ∗ owes (V d ((K (F := F)).core q c) ((K (F := F)).sub q i)) O W') := by
  rw [show O + (P v).ox q (V d ((K (F := F)).core q c) ((K (F := F)).sub q i)) = O from add_zero O]
  have hci : ((K (F := F)).core q c).val < grid1.bound 0 ∧ ((K (F := F)).sub q i).val < grid1.bound 1 :=
    ⟨c.isLt.trans_eq (nCore_eq q), i.isLt.trans_eq (nSub_eq q)⟩
  refine BI.Entails.trans ?_ (Pipeline.wp_liftProg (D (F := F)) (Pipeline.defs_kernel pcfgs defs₀) 𝒱₀ _ Set.univ none _ _)
  simp only [SparseCore.onTile, hci, and_self, ↓reduceDIte]
  exact tile_body v q d (c.cast (nCore_eq q)) (i.cast (nSub_eq q)) O W hO

theorem tileObl : ∀ q : Fin 4, (K (F := F)).TileObl (D (F := F)) 𝒱 (P v) v₀ q
  | 0 => fun d c i O W hO _ _ => call_body v 0 d c i O W hO
  | 1 => fun d c i O W hO _ _ => call_body v 1 d c i O W hO
  | 2 => fun d c i O W hO _ _ => call_body v 2 d c i O W hO
  | 3 => fun d c i O W hO _ _ => call_body v 3 d c i O W hO

end Cert.Proof.K
-- ==== Proof.Matmul.lean ====
/-
  The TensorCore's kernel: one block of logits, W·xᵀ + b, from staged blocks of x, W and b.
-/
module

public import proofs.«01_k».proof.Proof.Common

@[expose] public section

noncomputable section

namespace Cert.Proof.K

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-- The block of logits the kernel computes: the product W·xᵀ, plus the bias along the rows. -/
def block (x : Vec F S1024x4096 .f32) (w : Vec F S64x4096 .f32) (b : Vec F S64x1 .f32) : Vec F S64x1024 .f32 :=
  addf (matmul dot_S64x4096_S1024x4096_S64x1024_1_1_0_0_n_n none w x (constant S64x1024 .f32 0x00000000#32))
    (broadcastTo S64x1024 (shapeCast S64x1 b shapeCasts_S64x1_S64x1) broadcasts_S64x1_S64x1024)

theorem origin : (![0, 0] : Fin 2 → ℕ) = fun _ => 0 := by funext a; fin_cases a <;> rfl

/-- Loaded through the rectangle at the origin of all its sizes, a view gives what it reads. -/
theorem readAt_unit {κ : Kind} {sp : Space} {s : Shape} {e : EltTy} (v : View sig κ sp s e) (f : v.ty.Contents (Elt F))
    {off : Fin s.rank → Nat} (h : off = fun _ => 0) (inb : ∀ a, off a + s.size a ≤ s.size a) :
    v.readAt (Elt F) (Rect.unit off s.size inb).toLoadRect f = v.read (Elt F) f := by
  subst h
  funext y
  show v.read (Elt F) f ((Rect.whole s).emb y) = _
  rw [Rect.emb_whole_apply]

/-- Stored through it, a view reads the stored value. -/
theorem read_writes_unit {κ : Kind} {sp : Space} {s : Shape} {e : EltTy} (v : View sig κ sp s e) (f : v.ty.Contents (Elt F))
    {off : Fin s.rank → Nat} (h : off = fun _ => 0) (inb : ∀ a, off a + s.size a ≤ s.size a) (w : s.Idx → Elt F e) :
    v.read (Elt F) (v.writes (Elt F) f [⟨Rect.unit off s.size inb, w⟩]) = w := by
  subst h
  exact View.read_writes_whole v f w

set_option maxHeartbeats 1000000 in
/-- The kernel leaves the three staged inputs as they were and its result's buffer at the block of logits. -/
theorem block_wp (c : Dev nD) (i : grid0.Coords) (M0 : Memref sig .tc .vmem S1024x4096 .f32) (h0 : M0.IsWhole)
    (M1 : Memref sig .tc .vmem S64x4096 .f32) (h1 : M1.IsWhole) (M2 : Memref sig .tc .vmem S64x1 .f32) (h2 : M2.IsWhole)
    (M3 : Memref sig .tc .vmem S64x1024 .f32) (h3 : M3.IsWhole)
    (X : Vec F S1024x4096 .f32) (W : Vec F S64x4096 .f32) (B : Vec F S64x1 .f32) (Y : Vec F S64x1024 .f32) (Q : PUnit → sProp 𝕄) :
    iprop(owns (c.tc : Thread nD τ) M0 fullShare X ∗ owns (c.tc : Thread nD τ) M1 fullShare W ∗ owns (c.tc : Thread nD τ) M2 fullShare B
        ∗ owns (c.tc : Thread nD τ) M3 fullShare Y
        ∗ (iprop(owns (c.tc : Thread nD τ) M0 fullShare X ∗ owns (c.tc : Thread nD τ) M1 fullShare W ∗ owns (c.tc : Thread nD τ) M2 fullShare B
          ∗ owns (c.tc : Thread nD τ) M3 fullShare (block X W B)) -∗ Q ⟨⟩))
      ⊢ wp frame (wpE (defs₀ (F := F)) 𝒱₀ (c.tc : Thread nD τ) none) Set.univ (cc0__matmul_body i M0 h0 M1 h1 M2 h2 M3 h3) Q := by
  unfold owns
  rw [h0.set_eq_univ, h1.set_eq_univ, h2.set_eq_univ, h3.set_eq_univ]
  iintro ⟨⟨%f0, %e0, H0⟩, ⟨%f1, %e1, H1⟩, ⟨%f2, %e2, H2⟩, ⟨%f3, -, H3⟩, Hk⟩
  subst e0 e1 e2
  sl_exec!
  sl_step
  iapply Hk
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  iexists _; isplitr; swap; (· iexact H3); ipureintro
  unfold block_wp.sl.H3_1
  refine (read_writes_unit M3.view _ origin _ _).trans ?_
  rw [readAt_unit M0.view f0 origin, readAt_unit M1.view f1 origin, readAt_unit M2.view f2 origin]
  rfl

/-- The kernel at a grid point, whatever else is held: the staged inputs known, the result's buffer at anything. -/
theorem point_wp (c : Dev nD) (i : grid0.Coords) (M0 : Memref sig .tc .vmem S1024x4096 .f32) (h0 : M0.IsWhole)
    (M1 : Memref sig .tc .vmem S64x4096 .f32) (h1 : M1.IsWhole) (M2 : Memref sig .tc .vmem S64x1 .f32) (h2 : M2.IsWhole)
    (M3 : Memref sig .tc .vmem S64x1024 .f32) (h3 : M3.IsWhole) {X : Vec F S1024x4096 .f32} {W : Vec F S64x4096 .f32} {B : Vec F S64x1 .f32}
    {D0 D1 D2 D3 : Type} {b0 : D0 → Vec F S1024x4096 .f32} {b1 : D1 → Vec F S64x4096 .f32} {b2 : D2 → Vec F S64x1 .f32}
    {b3 : D3 → Vec F S64x1024 .f32} (e0 : ∀ d, b0 d = X) (e1 : ∀ d, b1 d = W) (e2 : ∀ d, b2 d = B) (R O : sProp 𝕄) :
    iprop(R ∗ O ∗ (∃ d, owns (c.tc : Thread nD τ) M0 fullShare (b0 d)) ∗ (∃ d, owns (c.tc : Thread nD τ) M1 fullShare (b1 d))
        ∗ (∃ d, owns (c.tc : Thread nD τ) M2 fullShare (b2 d)) ∗ (∃ d, owns (c.tc : Thread nD τ) M3 fullShare (b3 d)))
      ⊢ wp frame (wpE (defs₀ (F := F)) 𝒱₀ (c.tc : Thread nD τ) none) Set.univ (cc0__matmul_body i M0 h0 M1 h1 M2 h2 M3 h3) fun _ =>
        iprop(R ∗ O ∗ owns (c.tc : Thread nD τ) M0 fullShare X ∗ owns (c.tc : Thread nD τ) M1 fullShare W
          ∗ owns (c.tc : Thread nD τ) M2 fullShare B ∗ owns (c.tc : Thread nD τ) M3 fullShare (block X W B)) := by
  iintro ⟨HR, HO, ⟨%d0, H0⟩, ⟨%d1, H1⟩, ⟨%d2, H2⟩, ⟨%d3, H3⟩⟩
  rw [e0, e1, e2]
  iapply (block_wp c i M0 h0 M1 h1 M2 h2 M3 h3 X W B (b3 d3) _)
  isplitl [H0]; · iexact H0
  isplitl [H1]; · iexact H1
  isplitl [H2]; · iexact H2
  isplitl [H3]; · iexact H3
  iintro ⟨H0, H1, H2, H3⟩
  isplitl [HR]; · iexact HR
  isplitl [HO]; · iexact HO
  isplitl [H0]; · iexact H0
  isplitl [H1]; · iexact H1
  isplitl [H2]; · iexact H2
  iexact H3

end Cert.Proof.K

end
-- ==== Proof.Region.lean ====
/-
  The four TensorCore calls: each entered and left with every array of the device held at known contents, and with the
  TensorCore owing what it owes between two SparseCore calls.
-/
module

public import proofs.«01_k».proof.Proof.Matmul
public import Idealize.ShloMosaic.Lib.Pipeline.Regions
public import Idealize.ShloMosaic.Lib.Pipeline.RegionArrays
public import Idealize.ShloMosaic.Lib.Pipeline.RegionArraysS
public import Idealize.ShloMosaic.Lib.Pipeline.FrameBody
public import Idealize.ShloMosaic.Lib.Pipeline.FrameTail
public import Idealize.ShloMosaic.Lib.Pipeline.Frame
public import Idealize.ShloMosaic.Lib.Pipeline.Value
public import Idealize.ShloMosaic.Lib.Pipeline.ValueKit.Geometry

@[expose] public section

noncomputable section

namespace Cert.Proof.K

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRef ucRefs arrRefs RegionSeg)

variable {F : FTy → Type} [FloatOps F]

local notation "𝕄" => MT nD τ sig (HIx 4) (Elt F) ℕ UU ℕ

/-- The block of window `w`'s array that point `t` works on, the arrays at the contents `V`. -/
abbrev blockAt (cfg : Cfg sig Λ₀) (V : Valuation τ sig (Elt F)) (w : Fin cfg.W) (t : Fin cfg.N) :
    ((cfg.win w).xblock (cfg.grid.coords t)).Idx → Elt F (cfg.win w).elt :=
  ((cfg.win w).blk t).view.read (Elt F) (V (Proc.devRef .tc (arrRef cfg.spec w)))

/-- What each call leaves in its windows' buffers: the inputs as fetched, the result's at the block of logits. -/
def left : (p : Fin 4) → (V : Valuation τ sig (Elt F)) → (w : Fin (cfgs p).W) → (t : Fin (cfgs p).N) →
    ((cfgs p).win w).block.Idx → Elt F ((cfgs p).win w).elt
  | 0 => fun V w t => match w with
    | 0 => blockAt cfg0 V 0 t
    | 1 => blockAt cfg0 V 1 t
    | 2 => blockAt cfg0 V 2 t
    | 3 => block (blockAt cfg0 V 0 t) (blockAt cfg0 V 1 t) (blockAt cfg0 V 2 t)
  | 1 => fun V w t => match w with
    | 0 => blockAt cfg2 V 0 t
    | 1 => blockAt cfg2 V 1 t
    | 2 => blockAt cfg2 V 2 t
    | 3 => block (blockAt cfg2 V 0 t) (blockAt cfg2 V 1 t) (blockAt cfg2 V 2 t)
  | 2 => fun V w t => match w with
    | 0 => blockAt cfg4 V 0 t
    | 1 => blockAt cfg4 V 1 t
    | 2 => blockAt cfg4 V 2 t
    | 3 => block (blockAt cfg4 V 0 t) (blockAt cfg4 V 1 t) (blockAt cfg4 V 2 t)
  | 3 => fun V w t => match w with
    | 0 => blockAt cfg6 V 0 t
    | 1 => blockAt cfg6 V 1 t
    | 2 => blockAt cfg6 V 2 t
    | 3 => block (blockAt cfg6 V 0 t) (blockAt cfg6 V 1 t) (blockAt cfg6 V 2 t)

/-- No call has a prefetched table. -/
abbrev adm (p : Fin 4) : (pcfgs (F := F) p).Adm := (cfgs p).toPCfg_adm

/-- The proof data of call `p` entered with the arrays at `V`: the TensorCore owes the starts of the SparseCore calls
    from `p` on throughout. -/
def dat (V : Valuation τ sig (Elt F)) (p : Fin 4) (c : Dev nD) : Dat τ (Elt F) (HIx 4) ℕ UU ℕ (Pipeline.pin (pcfgs (F := F)) adm p) c where
  A w := V (Proc.devRef .tc (arrRef (cfgs p).spec w))
  after w t := left p V w t
  Φ _ := Pipeline.scopedRest (cfgs p).spec c
  q _ := fullShare
  owed _ := (K (F := F)).Otc c p.val
  recorded _ := {x | (K (F := F)).lev (SparseCore.T c, x.1) x.2 ≤ 8 * p.val}

section Body

variable (V : Valuation τ sig (Elt F)) (c : Dev nD)

/-- An input's buffer holds its block when the body runs. -/
theorem before_eq (p : Fin 4) (w : Fin (cfgs p).W) (hw : ((cfgs p).win w).isOut = false) (hi : ∀ i, (cfgs p).idle w i = false)
    (hc : ∀ t t' : Fin (cfgs p).N, ((cfgs p).win w).index t = ((cfgs p).win w).index t' →
      ((cfgs p).win w).clip ((cfgs p).grid.coords t) = ((cfgs p).win w).clip ((cfgs p).grid.coords t'))
    (hk : ∀ t, ((cfgs p).win w).cut ((cfgs p).grid.coords t) (left p V w t) = blockAt (cfgs p) V w t)
    (t : Fin (cfgs p).N) (d) : (dat V p c).before w t d = (dat V p c).fetched w t d :=
  (dat V p c).before_in_eq_fetched w hw hi hc hk t d

/-- The first call's body meets its obligation at every point. -/
theorem body0 : BodyObligation (dat V 0 c) (defs₀ (F := F)) 𝒱₀ none Set.univ := fun t => by
  rw [bigSep_W0, bigSep_W0]
  have h := point_wp (F := F) c (grid0.coords t) ((cfg0.win 0).stage (cfg0.slots t 0)) (hstage0_0 ((cfg0.slots t 0).cast nbuf0_0))
    ((cfg0.win 1).stage (cfg0.slots t 1)) (hstage0_1 ((cfg0.slots t 1).cast nbuf0_1)) ((cfg0.win 2).stage (cfg0.slots t 2)) (hstage0_2 ((cfg0.slots t 2).cast nbuf0_2))
    ((cfg0.win 3).stage (cfg0.slots t 3)) (hstage0_3 ((cfg0.slots t 3).cast nbuf0_3))
    (X := blockAt cfg0 V 0 t) (W := blockAt cfg0 V 1 t) (B := blockAt cfg0 V 2 t) (b3 := (dat V 0 c).before (3 : Fin 4) t)
    (fun d => before_eq V c 0 (0 : Fin 4) rfl (fun _ => rfl) (fun _ _ _ => rfl) (fun _ => rfl) t d)
    (fun d => before_eq V c 0 (1 : Fin 4) rfl (fun _ => rfl) (fun _ _ _ => rfl) (fun _ => rfl) t d)
    (fun d => before_eq V c 0 (2 : Fin 4) rfl (fun _ => rfl) (fun _ _ _ => rfl) (fun _ => rfl) t d)
    (Pipeline.scopedRest cfg0.spec c) ((dat V 0 c).owesAt none t.castSucc)
  exact h

/-- The second call's body meets its obligation at every point. -/
theorem body1 : BodyObligation (dat V 1 c) (defs₀ (F := F)) 𝒱₀ none Set.univ := fun t => by
  rw [bigSep_W2, bigSep_W2]
  have h := point_wp (F := F) c (grid2.coords t) ((cfg2.win 0).stage (cfg2.slots t 0)) (hstage2_0 ((cfg2.slots t 0).cast nbuf2_0))
    ((cfg2.win 1).stage (cfg2.slots t 1)) (hstage2_1 ((cfg2.slots t 1).cast nbuf2_1)) ((cfg2.win 2).stage (cfg2.slots t 2)) (hstage2_2 ((cfg2.slots t 2).cast nbuf2_2))
    ((cfg2.win 3).stage (cfg2.slots t 3)) (hstage2_3 ((cfg2.slots t 3).cast nbuf2_3))
    (X := blockAt cfg2 V 0 t) (W := blockAt cfg2 V 1 t) (B := blockAt cfg2 V 2 t) (b3 := (dat V 1 c).before (3 : Fin 4) t)
    (fun d => before_eq V c 1 (0 : Fin 4) rfl (fun _ => rfl) (fun _ _ _ => rfl) (fun _ => rfl) t d)
    (fun d => before_eq V c 1 (1 : Fin 4) rfl (fun _ => rfl) (fun _ _ _ => rfl) (fun _ => rfl) t d)
    (fun d => before_eq V c 1 (2 : Fin 4) rfl (fun _ => rfl) (fun _ _ _ => rfl) (fun _ => rfl) t d)
    (Pipeline.scopedRest cfg2.spec c) ((dat V 1 c).owesAt none t.castSucc)
  exact h

/-- The third call's body meets its obligation at every point. -/
theorem body2 : BodyObligation (dat V 2 c) (defs₀ (F := F)) 𝒱₀ none Set.univ := fun t => by
  rw [bigSep_W4, bigSep_W4]
  have h := point_wp (F := F) c (grid4.coords t) ((cfg4.win 0).stage (cfg4.slots t 0)) (hstage4_0 ((cfg4.slots t 0).cast nbuf4_0))
    ((cfg4.win 1).stage (cfg4.slots t 1)) (hstage4_1 ((cfg4.slots t 1).cast nbuf4_1)) ((cfg4.win 2).stage (cfg4.slots t 2)) (hstage4_2 ((cfg4.slots t 2).cast nbuf4_2))
    ((cfg4.win 3).stage (cfg4.slots t 3)) (hstage4_3 ((cfg4.slots t 3).cast nbuf4_3))
    (X := blockAt cfg4 V 0 t) (W := blockAt cfg4 V 1 t) (B := blockAt cfg4 V 2 t) (b3 := (dat V 2 c).before (3 : Fin 4) t)
    (fun d => before_eq V c 2 (0 : Fin 4) rfl (fun _ => rfl) (fun _ _ _ => rfl) (fun _ => rfl) t d)
    (fun d => before_eq V c 2 (1 : Fin 4) rfl (fun _ => rfl) (fun _ _ _ => rfl) (fun _ => rfl) t d)
    (fun d => before_eq V c 2 (2 : Fin 4) rfl (fun _ => rfl) (fun _ _ _ => rfl) (fun _ => rfl) t d)
    (Pipeline.scopedRest cfg4.spec c) ((dat V 2 c).owesAt none t.castSucc)
  exact h

/-- The fourth call's body meets its obligation at every point. -/
theorem body3 : BodyObligation (dat V 3 c) (defs₀ (F := F)) 𝒱₀ none Set.univ := fun t => by
  rw [bigSep_W6, bigSep_W6]
  have h := point_wp (F := F) c (grid6.coords t) ((cfg6.win 0).stage (cfg6.slots t 0)) (hstage6_0 ((cfg6.slots t 0).cast nbuf6_0))
    ((cfg6.win 1).stage (cfg6.slots t 1)) (hstage6_1 ((cfg6.slots t 1).cast nbuf6_1)) ((cfg6.win 2).stage (cfg6.slots t 2)) (hstage6_2 ((cfg6.slots t 2).cast nbuf6_2))
    ((cfg6.win 3).stage (cfg6.slots t 3)) (hstage6_3 ((cfg6.slots t 3).cast nbuf6_3))
    (X := blockAt cfg6 V 0 t) (W := blockAt cfg6 V 1 t) (B := blockAt cfg6 V 2 t) (b3 := (dat V 3 c).before (3 : Fin 4) t)
    (fun d => before_eq V c 3 (0 : Fin 4) rfl (fun _ => rfl) (fun _ _ _ => rfl) (fun _ => rfl) t d)
    (fun d => before_eq V c 3 (1 : Fin 4) rfl (fun _ => rfl) (fun _ _ _ => rfl) (fun _ => rfl) t d)
    (fun d => before_eq V c 3 (2 : Fin 4) rfl (fun _ => rfl) (fun _ _ _ => rfl) (fun _ => rfl) t d)
    (Pipeline.scopedRest cfg6.spec c) ((dat V 3 c).owesAt none t.castSucc)
  exact h

/-- Every call's body meets its obligation. -/
theorem bodyAt : ∀ p, BodyObligation (dat V p c) (defs₀ (F := F)) 𝒱₀ none Set.univ
  | 0 => body0 V c
  | 1 => body1 V c
  | 2 => body2 V c
  | 3 => body3 V c

end Body

/-- Every call's layout. -/
theorem layout : ∀ p : Fin 4, Pipeline.LaunchFacts (nD := nD) (τ := τ) cfgs p
  | 0 => launch0
  | 1 => launch2
  | 2 => launch4
  | 3 => launch6

/-- What the TensorCore owes between the SparseCore calls, before call `n`: its recorded waits below that call. -/
abbrev owing (c : Dev nD) (n : ℕ) : sProp 𝕄 :=
  iprop(∃ W, ⌜(K (F := F)).WBelow (SparseCore.T c) W (8 * n)⌝ ∗ owes (c.tc : Thread nD τ) ((K (F := F)).Otc c n) W)

set_option backward.isDefEq.respectTransparency.types false in
/-- Call `p` as a region of the main program. -/
def seg (V : Valuation τ sig (Elt F)) (p : Fin 4) : RegionSeg (pcfgs (F := F)) adm (fun p c => dat V p c) none (defs₀ (F := F)) 𝒱₀
    (K (F := F)).L (K (F := F)).lev p where
  win := (layout p).win.to₀
  block_pos := (layout p).block_pos
  stage_whole := (layout p).stage_whole
  K := PEmpty
  osem k := k.elim
  ho := Pipeline.OwnSemFacts.none _
  hbody c := (bodyAt V c p).loose
  hwaits c := Pipeline.cellsWaits_of_cut (Pipeline.pin (pcfgs (F := F)) adm) (fun p c => dat V p c) none p c 0 ((K (F := F)).Otc c p.val) (fun _ => rfl)
    (fun _ _ => Finset.mem_univ _) (fun _ _ => le_rfl)
    (fun g i h => ⟨Finset.mem_univ _, Nat.lt_of_lt_of_le (Nat.succ_pos _) (SparseCore.Cfg.lev_of_Otc_pos (K := K (F := F)) h)⟩)
  pre c := iprop(StableHlo.held (c.tc : Thread nD τ) (ucRefs τ sig) V ∗ owing c p.val)
  post c := iprop(StableHlo.held (c.tc : Thread nD τ) (ucRefs τ sig) (Pipeline.afterRegion (dat V p c) V) ∗ owing c p.val)
  X _ := BI.emp
  Y _ := BI.emp
  Z c := StableHlo.held (c.tc : Thread nD τ) (ucRefs τ sig \ arrRefs (cfgs p).spec) V
  hentry c := by
    rw [Pipeline.ownSems0_none, Pipeline.prefHeld_of_none _ rfl,
      Pipeline.arrays_held (pcfgs (F := F)) adm (fun p c => dat V p c) p (layout p).toP c ((dat V p c).share_full fun _ => rfl)
        ((dat V p c).arrAt · 0) V (fun _ => rfl),
      StableHlo.held_sub_split _ (Pipeline.arrRefs_sub_ucRefs (cfgs p).spec (layout p).win.arr_unscoped) V]
    iintro ⟨⟨⟨Ha, Hr⟩, %W, %hW, HO⟩, -, -⟩
    imodintro
    isplitl [Ha]; · iexact Ha
    isplitr; · iempintro
    isplitl [HO]
    · unfold Pipeline.Dat.owesAt Pipeline.owesWithin
      iexists W; isplitr; · ipureintro; exact fun x hx => Or.inl (hW x hx)
      iexact HO
    isplitr; · iempintro
    iexact Hr
  hin c := by
    rw [show (dat V p c).Φ 0 = Pipeline.scopedRest (Pipeline.pin (pcfgs (F := F)) adm p).spec c from rfl]
    iintro ⟨-, -, Hr⟩; iexact Hr
  hout c := by
    rw [Pipeline.ownSems0_none, show (dat V p c).Φ (Fin.last _) = Pipeline.scopedRest (Pipeline.pin (pcfgs (F := F)) adm p).spec c from rfl]
    iintro Hr
    isplitr; · iempintro
    isplitr; · iempintro
    iexact Hr
  hexit c := by
    rw [Pipeline.arrays_held (pcfgs (F := F)) adm (fun p c => dat V p c) p (layout p).toP c ((dat V p c).share_full fun _ => rfl)
        ((dat V p c).arrAt · (cfgs p).N) (Pipeline.afterRegion (dat V p c) V)
        (fun w => (Pipeline.afterRegion_arr (dat V p c) V (layout p).win.arr_inj w).symm),
      StableHlo.held_sub_split _ (Pipeline.arrRefs_sub_ucRefs (cfgs p).spec (layout p).win.arr_unscoped) (Pipeline.afterRegion (dat V p c) V),
      StableHlo.held_congr _ (Pipeline.afterRegion_off (dat V p c) V (ucRefs τ sig))]
    iintro ⟨Ha, HO, -, Hr⟩
    imodintro
    isplitl [Ha Hr]; · isplitl [Ha] <;> iassumption
    unfold Pipeline.Dat.owesAt Pipeline.owesWithin
    icases HO with ⟨%W, %hW, HO⟩; iexists W; isplitr; swap; (· iexact HO)
    ipureintro
    intro x hx
    rcases hW hx with h | ⟨w, s, h⟩
    · exact h
    · rw [h]; exact Nat.zero_le _

/-- Call `p` run on the TensorCore of `d`: every array held at `V` before it and, after it, at what it leaves. -/
theorem region_wp (V : Valuation τ sig (Elt F)) (p : Fin 4) (d : Dev nD) (Φ : PUnit → sProp 𝕄) :
    iprop(boundary (d.tc : Thread nD τ) ∗ StableHlo.held (d.tc : Thread nD τ) (ucRefs τ sig) V ∗ owing d p.val ∗ levAts (K (F := F)).L (K (F := F)).lev
        ∗ Pipeline.cellsGhost (Pipeline.pin (pcfgs (F := F)) adm) EP p d ∗ Pipeline.toksInit (Pipeline.pin (pcfgs (F := F)) adm) EP p d
        ∗ ((boundary (d.tc : Thread nD τ) ∗ StableHlo.held (d.tc : Thread nD τ) (ucRefs τ sig) (Pipeline.afterRegion (dat V p d) V) ∗ owing d p.val) -∗ Φ ⟨⟩))
      ⊢ wp frame (wpE ((K (F := F)).defs D) 𝒱 (d.tc : Thread nD τ) none) Set.univ
          (Prog.lift (.customCall (SparseCore.inner (Pipeline.entry p)) ())) Φ := by
  iintro ⟨Hb, Hh, Ho, Hl, Hg, Ht, Hk⟩
  iapply ((K (F := F)).wp_liftProg D 𝒱 (d.tc : Thread nD τ) Set.univ none (Prog.lift (.customCall (Pipeline.entry p) ())) Φ)
  iapply (RegionSeg.wp (pcfgs (F := F)) adm (fun p c => dat V p c) none cellOf_inj EP (defs₀ (F := F)) 𝒱₀ (K (F := F)).L (K (F := F)).lev (seg V p) d none
    (fun _ h => nomatch h) _ Φ)
  isplitl [Hk]
  · iintro ⟨Hb, Hp⟩
    rw [wp_ret]
    imodintro
    iapply Hk
    isplitl [Hb]; · iexact Hb
    iapply (show (seg V p).post d ⊢ iprop(StableHlo.held (d.tc : Thread nD τ) (ucRefs τ sig) (Pipeline.afterRegion (dat V p d) V) ∗ owing d p.val)
      from BI.Entails.refl _)
    iexact Hp
  isplitl [Hb]; · iexact Hb
  isplitl [Hh Ho]
  · iapply (show iprop(StableHlo.held (d.tc : Thread nD τ) (ucRefs τ sig) V ∗ owing d p.val) ⊢ (seg V p).pre d from BI.Entails.refl _)
    isplitl [Hh] <;> iassumption
  isplitl [Hl]; · iexact Hl
  isplitl [Hg]; · iexact Hg
  iexact Ht

end Cert.Proof.K

end
-- ==== Proof.Step.lean ====
/-
  One SparseCore call on the TensorCore, every array of the device held at known contents before and after it: the call
  reads its logits' array and leaves the gates and the experts of those logits in its results' arrays.
-/
module

public import proofs.«01_k».proof.Proof.Pay
public import proofs.«01_k».proof.Proof.Region

@[expose] public section

noncomputable section

namespace Cert.Proof.K

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type} [FloatOps F]

local notation "𝕄" => MT nD τ sig (HIx 4) (Elt F) ℕ UU ℕ

/-! ## The calls' arrays, as the TensorCore names them -/

/-- The logits, the gates, the experts of call `q`. -/
abbrev xR : Fin 4 → Ref sig .tc | 0 => main_v1 | 1 => main_v4 | 2 => main_v7 | 3 => main_v10
abbrev gR : Fin 4 → Ref sig .tc | 0 => main_v2_0 | 1 => main_v5_0 | 2 => main_v8_0 | 3 => main_v11_0
abbrev iR : Fin 4 → Ref sig .tc | 0 => main_v2_1 | 1 => main_v5_1 | 2 => main_v8_1 | 3 => main_v11_1

/-- What an array of each call holds, out of the contents of every array. -/
def xOf : Fin 4 → Valuation τ sig (Elt F) → S64x8192.Idx → Elt F .f32
  | 0 => fun V => V main_v1 | 1 => fun V => V main_v4 | 2 => fun V => V main_v7 | 3 => fun V => V main_v10
def gOf : Fin 4 → Valuation τ sig (Elt F) → S8x8192.Idx → Elt F .f32
  | 0 => fun V => V main_v2_0 | 1 => fun V => V main_v5_0 | 2 => fun V => V main_v8_0 | 3 => fun V => V main_v11_0
def iOf : Fin 4 → Valuation τ sig (Elt F) → S8x8192.Idx → Elt F .i32
  | 0 => fun V => V main_v2_1 | 1 => fun V => V main_v5_1 | 2 => fun V => V main_v8_1 | 3 => fun V => V main_v11_1

/-- The contents `V` with call `q`'s results at `G` and `I`. -/
def put : Fin 4 → (S8x8192.Idx → Elt F .f32) → (S8x8192.Idx → Elt F .i32) → Valuation τ sig (Elt F) → Valuation τ sig (Elt F)
  | 0 => fun G I V => Function.update (Function.update V main_v2_0 G) main_v2_1 I
  | 1 => fun G I V => Function.update (Function.update V main_v5_0 G) main_v5_1 I
  | 2 => fun G I V => Function.update (Function.update V main_v8_0 G) main_v8_1 I
  | 3 => fun G I V => Function.update (Function.update V main_v11_0 G) main_v11_1 I

/-- The three arrays of call `q`. -/
def three (q : Fin 4) : Finset (DevRef τ sig) := {(xR q : DevRef τ sig), (gR q : DevRef τ sig), (iR q : DevRef τ sig)}

theorem three_sub : ∀ q, three q ⊆ ucRefs τ sig := by decide

theorem held_whole {sp : Space} {s : Shape} {e : EltTy} (a : Memref sig .scVector sp s e) (ha : a.view.set = Finset.univ) (d : Dev nD)
    (X : s.Idx → Elt F e) (f : Buf (Elt F) (a.view.loc (SparseCore.V d c0 j0))) (hf : a.view.read (Elt F) f = X) :
    (a.view.loc (SparseCore.V d c0 j0) ↦{fullShare} f : sProp 𝕄) = heldAt a d c0 j0 Finset.univ X := by
  rw [← heldAt_of_read a d c0 j0 (f := f) fun y _ => congrFun hf y, show Finset.univ.map a.view.emb = a.view.set from rfl, ha]

/-- The three arrays of call `q`, held at `V`, are what its handshakes carry. -/
theorem held_three (d : Dev nD) (V : Valuation τ sig (Elt F)) : ∀ q,
    (StableHlo.held (d.tc : Thread nD τ) (three q) V : sProp 𝕄) = colsAt q d Finset.univ Finset.univ (xOf q V) (gOf q V) (iOf q V)
  | 0 => by
    unfold StableHlo.held three colsAt
    rw [SparseCore.bigSep_insert' (by decide), SparseCore.bigSep_insert' (by decide), bigSep_singleton,
      ← held_whole (xM 0) (Memref.isWhole_whole _).set_eq_univ d (xOf 0 V) (V main_v1) rfl,
      ← held_whole (gM 0) (Memref.isWhole_whole _).set_eq_univ d (gOf 0 V) (V main_v2_0) rfl,
      ← held_whole (iM 0) (Memref.isWhole_whole _).set_eq_univ d (iOf 0 V) (V main_v2_1) rfl]
  | 1 => by
    unfold StableHlo.held three colsAt
    rw [SparseCore.bigSep_insert' (by decide), SparseCore.bigSep_insert' (by decide), bigSep_singleton,
      ← held_whole (xM 1) (Memref.isWhole_whole _).set_eq_univ d (xOf 1 V) (V main_v4) rfl,
      ← held_whole (gM 1) (Memref.isWhole_whole _).set_eq_univ d (gOf 1 V) (V main_v5_0) rfl,
      ← held_whole (iM 1) (Memref.isWhole_whole _).set_eq_univ d (iOf 1 V) (V main_v5_1) rfl]
  | 2 => by
    unfold StableHlo.held three colsAt
    rw [SparseCore.bigSep_insert' (by decide), SparseCore.bigSep_insert' (by decide), bigSep_singleton,
      ← held_whole (xM 2) (Memref.isWhole_whole _).set_eq_univ d (xOf 2 V) (V main_v7) rfl,
      ← held_whole (gM 2) (Memref.isWhole_whole _).set_eq_univ d (gOf 2 V) (V main_v8_0) rfl,
      ← held_whole (iM 2) (Memref.isWhole_whole _).set_eq_univ d (iOf 2 V) (V main_v8_1) rfl]
  | 3 => by
    unfold StableHlo.held three colsAt
    rw [SparseCore.bigSep_insert' (by decide), SparseCore.bigSep_insert' (by decide), bigSep_singleton,
      ← held_whole (xM 3) (Memref.isWhole_whole _).set_eq_univ d (xOf 3 V) (V main_v10) rfl,
      ← held_whole (gM 3) (Memref.isWhole_whole _).set_eq_univ d (gOf 3 V) (V main_v11_0) rfl,
      ← held_whole (iM 3) (Memref.isWhole_whole _).set_eq_univ d (iOf 3 V) (V main_v11_1) rfl]

theorem put_off (G : S8x8192.Idx → Elt F .f32) (I : S8x8192.Idx → Elt F .i32) (V : Valuation τ sig (Elt F)) : ∀ q, ∀ b : DevRef τ sig,
    b ≠ (gR q : DevRef τ sig) → b ≠ (iR q : DevRef τ sig) → put q G I V b = V b
  | 0 => fun _ h h' => (Function.update_of_ne h' _ _).trans (Function.update_of_ne h _ _)
  | 1 => fun _ h h' => (Function.update_of_ne h' _ _).trans (Function.update_of_ne h _ _)
  | 2 => fun _ h h' => (Function.update_of_ne h' _ _).trans (Function.update_of_ne h _ _)
  | 3 => fun _ h h' => (Function.update_of_ne h' _ _).trans (Function.update_of_ne h _ _)

theorem xOf_congr {V V' : Valuation τ sig (Elt F)} : ∀ q, V' (xR q : DevRef τ sig) = V (xR q : DevRef τ sig) → xOf q V' = xOf q V
  | 0 => id | 1 => id | 2 => id | 3 => id
theorem gOf_congr {V V' : Valuation τ sig (Elt F)} : ∀ q, V' (gR q : DevRef τ sig) = V (gR q : DevRef τ sig) → gOf q V' = gOf q V
  | 0 => id | 1 => id | 2 => id | 3 => id
theorem iOf_congr {V V' : Valuation τ sig (Elt F)} : ∀ q, V' (iR q : DevRef τ sig) = V (iR q : DevRef τ sig) → iOf q V' = iOf q V
  | 0 => id | 1 => id | 2 => id | 3 => id

theorem update_fst {a b : DevRef τ sig} (h : a ≠ b) (V : Valuation τ sig (Elt F)) (x : a.ty.Contents (Elt F)) (y : b.ty.Contents (Elt F)) :
    Function.update (Function.update V a x) b y a = x := (Function.update_of_ne h _ _).trans (Function.update_self ..)
theorem update_snd {a b : DevRef τ sig} (V : Valuation τ sig (Elt F)) (x : a.ty.Contents (Elt F)) (y : b.ty.Contents (Elt F)) :
    Function.update (Function.update V a x) b y b = y := Function.update_self ..

theorem gOf_put (G : S8x8192.Idx → Elt F .f32) (I : S8x8192.Idx → Elt F .i32) (V : Valuation τ sig (Elt F)) : ∀ q, gOf q (put q G I V) = G
  | 0 => update_fst (a := (main_v2_0 : DevRef τ sig)) (b := (main_v2_1 : DevRef τ sig)) (by decide) V G I
  | 1 => update_fst (a := (main_v5_0 : DevRef τ sig)) (b := (main_v5_1 : DevRef τ sig)) (by decide) V G I
  | 2 => update_fst (a := (main_v8_0 : DevRef τ sig)) (b := (main_v8_1 : DevRef τ sig)) (by decide) V G I
  | 3 => update_fst (a := (main_v11_0 : DevRef τ sig)) (b := (main_v11_1 : DevRef τ sig)) (by decide) V G I
theorem iOf_put (G : S8x8192.Idx → Elt F .f32) (I : S8x8192.Idx → Elt F .i32) (V : Valuation τ sig (Elt F)) : ∀ q, iOf q (put q G I V) = I
  | 0 => update_snd (a := (main_v2_0 : DevRef τ sig)) (b := (main_v2_1 : DevRef τ sig)) V G I
  | 1 => update_snd (a := (main_v5_0 : DevRef τ sig)) (b := (main_v5_1 : DevRef τ sig)) V G I
  | 2 => update_snd (a := (main_v8_0 : DevRef τ sig)) (b := (main_v8_1 : DevRef τ sig)) V G I
  | 3 => update_snd (a := (main_v11_0 : DevRef τ sig)) (b := (main_v11_1 : DevRef τ sig)) V G I
theorem xOf_put (G : S8x8192.Idx → Elt F .f32) (I : S8x8192.Idx → Elt F .i32) (V : Valuation τ sig (Elt F)) (q : Fin 4) : xOf q (put q G I V) = xOf q V :=
  xOf_congr q (put_off G I V q _ (by revert q; decide) (by revert q; decide))

variable (v : Found F)

/-- SparseCore call `q` on the TensorCore of `d`, its arrays held at what its handshakes are stated at. -/
theorem run_wp (κ : GSem nD τ sig → ℕ) (d : Dev nD) (q : Fin 4) (V : Valuation τ sig (Elt F)) (hX : xOf q V = v.X q d) (hG : gOf q V = v.G q d)
    (hI : iOf q V = v.I q d) (Φ : PUnit → sProp 𝕄) :
    iprop((K (F := F)).ctx EH (P v) κ ∗ (K (F := F)).tcSt EH d q.val ∗ StableHlo.held (d.tc : Thread nD τ) (ucRefs τ sig) V
        ∗ (((K (F := F)).tcSt EH d (q.val + 1)
            ∗ StableHlo.held (d.tc : Thread nD τ) (ucRefs τ sig) (put q (gatesOf (v.X q d)) (idxsOf (v.X q d)) V)) -∗ Φ ⟨⟩))
      ⊢ wp frame (wpE ((K (F := F)).defs D) 𝒱 (SparseCore.T d) none) Set.univ ((K (F := F)).run d q) Φ := by
  have hrest : (StableHlo.held (d.tc : Thread nD τ) (ucRefs τ sig \ three q) V : sProp 𝕄)
      = StableHlo.held (d.tc : Thread nD τ) (ucRefs τ sig \ three q) (put q (gatesOf (v.X q d)) (idxsOf (v.X q d)) V) :=
    StableHlo.held_congr _ fun b hb => (put_off _ _ V q b
      (fun e => (Finset.mem_sdiff.mp hb).2 (e ▸ Finset.mem_insert_of_mem (Finset.mem_insert_self _ _)))
      (fun e => (Finset.mem_sdiff.mp hb).2 (e ▸ Finset.mem_insert_of_mem (Finset.mem_insert_of_mem (Finset.mem_singleton_self _))))).symm
  rw [StableHlo.held_sub_split _ (three_sub q) V, StableHlo.held_sub_split _ (three_sub q) (put q (gatesOf (v.X q d)) (idxsOf (v.X q d)) V), ← hrest,
    held_three d V q, held_three d (put q (gatesOf (v.X q d)) (idxsOf (v.X q d)) V) q, xOf_put, gOf_put, iOf_put, hX, hG, hI]
  iintro ⟨#Hctx, Hst, ⟨Hc, Hr⟩, Hk⟩
  iapply ((K (F := F)).wp_run D 𝒱 (EH := EH) (P := P v) κ d q) $$ [Hst Hc Hr Hk]
  isplitr; · iexact Hctx
  isplitl [Hst]; · iexact Hst
  isplitl [Hc]; · rw [st_eq]; iexact Hc
  iintro ⟨Hst, Hdn⟩
  iapply Hk
  isplitl [Hst]; · iexact Hst
  isplitl [Hdn]; · iapply (Entails.of_eq (dn_eq v q d)); iexact Hdn
  iexact Hr

end Cert.Proof.K

end
-- ==== Proof.Logits.lean ====
/-
  What the four TensorCore calls compute: each its chunk's logits, transposed.
-/
module

public import proofs.«01_k».proof.Proof.Region
public import proofs.«01_k».proof.Proof.Calls
public import proofs.«01_k».proof.Proof.Gen.KernelIdeal.Points

@[expose] public section

noncomputable section

namespace Cert.Proof.K

open Cert.KernelIdeal Cert.KernelIdeal.Gen
open Idealize.ShloMosaic
open Idealize.ShloMosaic.TcCoe Idealize.ShloMosaic.Tactic
open Idealize.ShloMosaic.ValueIdx (ix2)
open Idealize.SL Idealize.SL.RA
open Idealize.ShloMosaic.Pipeline (Dat Cfg Window arrRef)

variable {F : FTy → Type} [FloatOps F]

/-- The rows of x that point `t` of chunk `q` reads. -/
def xRows (q : Fin 4) (X : Vec F S32768x4096 .f32) (t : Fin 8) : Vec F S1024x4096 .f32 :=
  fun z => X (ix2 ⟨8192 * q.val + 1024 * t.val + (z 0).val, by have h : (z 0).val < 1024 := (z 0).isLt; omega⟩ (z 1))

/-- The transposed logits of chunk `q`: column `n` holds the 64 logits of token `8192 q + n`. -/
def logitsOf (q : Fin 4) (X : Vec F S32768x4096 .f32) (W : Vec F S64x4096 .f32) (B : Vec F S64x1 .f32) : Vec F S64x8192 .f32 :=
  fun y => block (xRows q X ⟨(y 1).val / 1024, by have h : (y 1).val < 8192 := (y 1).isLt; omega⟩) W B
    (ix2 (y 0) ⟨(y 1).val % 1024, Nat.mod_lt _ (by decide)⟩)

/-- A point's block of logits is the chunk's logits where the point writes them back. -/
theorem block_eq (q : Fin 4) (X : Vec F S32768x4096 .f32) (W : Vec F S64x4096 .f32) (B : Vec F S64x1 .f32) (t : Fin 8)
    {bx : Vec F S1024x4096 .f32} {bw : Vec F S64x4096 .f32} {bb : Vec F S64x1 .f32} (hx : bx = xRows q X t) (hw : bw = W) (hb : bb = B)
    (y : S64x1024.Idx) (j : S64x8192.Idx) (h0 : (j 0).val = (y 0).val) (h1 : (j 1).val = 1024 * t.val + (y 1).val) :
    block bx bw bb y = logitsOf q X W B j := by
  subst hx hw hb
  have hy : (y 1).val < 1024 := (y 1).isLt
  unfold logitsOf
  congr 1
  · congr 2; apply Fin.ext; show t.val = (j 1).val / 1024; omega
  · funext a; apply Fin.ext
    match a with
    | ⟨0, _⟩ => exact h0.symm
    | ⟨1, _⟩ => show (y 1).val = (j 1).val % 1024; omega

/-- The same, the four blocks given by where they lie in their arrays: at block `8 q + t` of x, at the whole of W and of
    the bias, at block `t` along the result's columns. -/
theorem block_emb (q : Fin 4) (X : Vec F S32768x4096 .f32) (W : Vec F S64x4096 .f32) (B : Vec F S64x1 .f32) (t : Fin 8)
    {ix iw ib io : Fin 2 → ℕ} (h : ix = ![8 * q.val + t.val, 0] ∧ iw = ![0, 0] ∧ ib = ![0, 0] ∧ io = ![0, t.val])
    (ex : S1024x4096.Idx → S32768x4096.Idx) (ew : S64x4096.Idx → S64x4096.Idx) (eb : S64x1.Idx → S64x1.Idx) (eo : S64x1024.Idx → S64x8192.Idx)
    (hx : ∀ z a, (ex z a).val = ix a * S1024x4096.size a + 1 * (z a).val) (hw : ∀ z a, (ew z a).val = iw a * S64x4096.size a + 1 * (z a).val)
    (hb : ∀ z a, (eb z a).val = ib a * S64x1.size a + 1 * (z a).val) (ho : ∀ z a, (eo z a).val = io a * S64x1024.size a + 1 * (z a).val)
    (y : S64x1024.Idx) : block (fun z => X (ex z)) (fun z => W (ew z)) (fun z => B (eb z)) y = logitsOf q X W B (eo y) := by
  obtain ⟨rfl, rfl, rfl, rfl⟩ := h
  refine block_eq q X W B t (funext fun z => congrArg X ?_) (funext fun z => congrArg W ?_) (funext fun z => congrArg B ?_) y _ ?_ ?_
  · funext a; apply Fin.ext; rw [hx]
    match a with
    | ⟨0, _⟩ => simp; omega
    | ⟨1, _⟩ => simp
  · funext a; apply Fin.ext; rw [hw]
    match a with
    | ⟨0, _⟩ => simp
    | ⟨1, _⟩ => simp
  · funext a; apply Fin.ext; rw [hb]
    match a with
    | ⟨0, _⟩ => simp
    | ⟨1, _⟩ => simp
  · rw [ho]; simp
  · rw [ho]; simp; omega

theorem idx0 : ∀ t : Fin grid0.N, win0_0.index t = ![8 * 0 + t.val, 0] ∧ win0_1.index t = ![0, 0] ∧ win0_2.index t = ![0, 0]
    ∧ win0_3.index t = ![0, t.val] := by decide +kernel

/-- The first call's result. -/
theorem logits0 (V : Valuation τ sig (Elt F)) (c : Dev nD) : (dat V 0 c).arrAt (3 : Fin 4) cfg0.N
    = logitsOf 0 (V (Proc.devRef .tc main_arg0)) (V (Proc.devRef .tc main_arg1)) (V (Proc.devRef .tc main_v0)) := by
  refine (dat V 0 c).arrAt_eq_of_covers (3 : Fin 4) _ (by decide +kernel : (cfg0.win 3).Covers) fun t hf y => ?_
  blk_simp
  exact block_emb 0 _ _ _ t (idx0 t) (win0_0.blk t).view.emb (win0_1.blk t).view.emb (win0_2.blk t).view.emb (win0_3.blk t).view.emb
    (fun _ _ => rfl) (fun _ _ => rfl) (fun _ _ => rfl) (fun _ _ => rfl) y

theorem idx2 : ∀ t : Fin grid2.N, win2_0.index t = ![8 * 1 + t.val, 0] ∧ win2_1.index t = ![0, 0] ∧ win2_2.index t = ![0, 0]
    ∧ win2_3.index t = ![0, t.val] := by decide +kernel

/-- The second call's result. -/
theorem logits1 (V : Valuation τ sig (Elt F)) (c : Dev nD) : (dat V 1 c).arrAt (3 : Fin 4) cfg2.N
    = logitsOf 1 (V (Proc.devRef .tc main_arg0)) (V (Proc.devRef .tc main_arg1)) (V (Proc.devRef .tc main_v3)) := by
  refine (dat V 1 c).arrAt_eq_of_covers (3 : Fin 4) _ (by decide +kernel : (cfg2.win 3).Covers) fun t hf y => ?_
  blk_simp
  exact block_emb 1 _ _ _ t (idx2 t) (win2_0.blk t).view.emb (win2_1.blk t).view.emb (win2_2.blk t).view.emb (win2_3.blk t).view.emb
    (fun _ _ => rfl) (fun _ _ => rfl) (fun _ _ => rfl) (fun _ _ => rfl) y

theorem idx4 : ∀ t : Fin grid4.N, win4_0.index t = ![8 * 2 + t.val, 0] ∧ win4_1.index t = ![0, 0] ∧ win4_2.index t = ![0, 0]
    ∧ win4_3.index t = ![0, t.val] := by decide +kernel

/-- The third call's result. -/
theorem logits2 (V : Valuation τ sig (Elt F)) (c : Dev nD) : (dat V 2 c).arrAt (3 : Fin 4) cfg4.N
    = logitsOf 2 (V (Proc.devRef .tc main_arg0)) (V (Proc.devRef .tc main_arg1)) (V (Proc.devRef .tc main_v6)) := by
  refine (dat V 2 c).arrAt_eq_of_covers (3 : Fin 4) _ (by decide +kernel : (cfg4.win 3).Covers) fun t hf y => ?_
  blk_simp
  exact block_emb 2 _ _ _ t (idx4 t) (win4_0.blk t).view.emb (win4_1.blk t).view.emb (win4_2.blk t).view.emb (win4_3.blk t).view.emb
    (fun _ _ => rfl) (fun _ _ => rfl) (fun _ _ => rfl) (fun _ _ => rfl) y

theorem idx6 : ∀ t : Fin grid6.N, win6_0.index t = ![8 * 3 + t.val, 0] ∧ win6_1.index t = ![0, 0] ∧ win6_2.index t = ![0, 0]
    ∧ win6_3.index t = ![0, t.val] := by decide +kernel

/-- The fourth call's result. -/
theorem logits3 (V : Valuation τ sig (Elt F)) (c : Dev nD) : (dat V 3 c).arrAt (3 : Fin 4) cfg6.N
    = logitsOf 3 (V (Proc.devRef .tc main_arg0)) (V (Proc.devRef .tc main_arg1)) (V (Proc.devRef .tc main_v9)) := by
  refine (dat V 3 c).arrAt_eq_of_covers (3 : Fin 4) _ (by decide +kernel : (cfg6.win 3).Covers) fun t hf y => ?_
  blk_simp
  exact block_emb 3 _ _ _ t (idx6 t) (win6_0.blk t).view.emb (win6_1.blk t).view.emb (win6_2.blk t).view.emb (win6_3.blk t).view.emb
    (fun _ _ => rfl) (fun _ _ => rfl) (fun _ _ => rfl) (fun _ _ => rfl) y

end Cert.Proof.K

end
-- ==== Proof.Main.lean ====
/-
  The main program on the TensorCore: chunk by chunk the bias is reshaped, the logits are computed, the SparseCores route
  them; then the chunks' results are put side by side and transposed.
-/
module

public import proofs.«01_k».proof.Proof.Step
public import proofs.«01_k».proof.Proof.Logits

@[expose] public section

noncomputable section

namespace Cert.Proof.K

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs arrRef)

variable {F : FTy → Type} [FloatOps F]

local notation "𝕄" => MT nD τ sig (HIx 4) (Elt F) ℕ UU ℕ

/-! ## What every call finds -/

variable (m : (ℓ : Loc nD τ sig) → Buf (Elt F) ℓ)

/-- The launch contents of a device's arrays. -/
abbrev at₀ (d : Dev nD) : Valuation τ sig (Elt F) := fun b => m (d, b)

/-- The logits of chunk `q`. -/
def logits (q : Fin 4) (d : Dev nD) : S64x8192.Idx → Elt F .f32 :=
  logitsOf q (at₀ m d main_arg0) (at₀ m d main_arg1) (shapeCast S64x1 (at₀ m d main_arg2) shapeCasts_S64_S64x1)

/-- What the SparseCore calls find. -/
def found : Found F where
  X := logits m
  G q d := gOf q (at₀ m d)
  I q d := iOf q (at₀ m d)

/-- The gates, transposed back: the first result. -/
def gatesRes (d : Dev nD) : S32768x8.Idx → Elt F .f32 :=
  transpose S32768x8 [1, 0] (concatenate S8x32768 1 [⟨S8x8192, gatesOf (logits m 0 d)⟩, ⟨S8x8192, gatesOf (logits m 1 d)⟩,
    ⟨S8x8192, gatesOf (logits m 2 d)⟩, ⟨S8x8192, gatesOf (logits m 3 d)⟩] concatenates_S8x8192_S8x8192_S8x8192_S8x8192_S8x32768_d1) transposes_S8x32768_S32768x8_1_0
/-- The experts, transposed back: the second. -/
def idxsRes (d : Dev nD) : S32768x8.Idx → Elt F .i32 :=
  transpose S32768x8 [1, 0] (concatenate S8x32768 1 [⟨S8x8192, idxsOf (logits m 0 d)⟩, ⟨S8x8192, idxsOf (logits m 1 d)⟩,
    ⟨S8x8192, idxsOf (logits m 2 d)⟩, ⟨S8x8192, idxsOf (logits m 3 d)⟩] concatenates_S8x8192_S8x8192_S8x8192_S8x8192_S8x32768_d1) transposes_S8x32768_S32768x8_1_0

/-! ## Between the chunks -/

/-- The arrays whose contents matter from one chunk to the next. -/
def watched : Finset (Ref sig .tc) :=
  {main_arg0, main_arg1, main_arg2, main_v2_0, main_v5_0, main_v8_0, main_v11_0, main_v2_1, main_v5_1, main_v8_1, main_v11_1}

/-- Before chunk `k`: the arguments as launched, the earlier chunks' results in place, the later ones' arrays as launched. -/
structure Before (d : Dev nD) (k : ℕ) (V : Valuation τ sig (Elt F)) : Prop where
  a0 : V main_arg0 = at₀ m d main_arg0
  a1 : V main_arg1 = at₀ m d main_arg1
  a2 : V main_arg2 = at₀ m d main_arg2
  past : ∀ q : Fin 4, q.val < k → gOf q V = gatesOf (logits m q d) ∧ iOf q V = idxsOf (logits m q d)
  todo : ∀ q : Fin 4, k ≤ q.val → gOf q V = gOf q (at₀ m d) ∧ iOf q V = iOf q (at₀ m d)

variable {m}

theorem Before.congr {d : Dev nD} {k : ℕ} {V V' : Valuation τ sig (Elt F)} (h : Before m d k V)
    (hw : ∀ r ∈ watched, V' (r : DevRef τ sig) = V (r : DevRef τ sig)) : Before m d k V' := by
  have hg (q) : gOf q V' = gOf q V := gOf_congr q (hw _ (by revert q; decide))
  have hi (q) : iOf q V' = iOf q V := iOf_congr q (hw _ (by revert q; decide))
  exact ⟨(hw _ (by decide)).trans h.a0, (hw _ (by decide)).trans h.a1, (hw _ (by decide)).trans h.a2,
    fun q hq => ⟨(hg q).trans (h.past q hq).1, (hi q).trans (h.past q hq).2⟩,
    fun q hq => ⟨(hg q).trans (h.todo q hq).1, (hi q).trans (h.todo q hq).2⟩⟩

theorem Before.put {d : Dev nD} {q : Fin 4} {V : Valuation τ sig (Elt F)} (h : Before m d q.val V) :
    Before m d (q.val + 1) (put q (gatesOf (logits m q d)) (idxsOf (logits m q d)) V) := by
  have hoff (b : Ref sig .tc) (h1 : b ≠ gR q) (h2 : b ≠ iR q) := put_off (gatesOf (logits m q d)) (idxsOf (logits m q d)) V q (b : DevRef τ sig)
    (StableHlo.devRef_ne_of_ne h1) (StableHlo.devRef_ne_of_ne h2)
  have hne : ∀ q q' : Fin 4, q' ≠ q → (gR q' ≠ gR q ∧ gR q' ≠ iR q) ∧ iR q' ≠ gR q ∧ iR q' ≠ iR q := by decide
  have harg : ∀ q : Fin 4, (main_arg0 ≠ gR q ∧ main_arg0 ≠ iR q) ∧ (main_arg1 ≠ gR q ∧ main_arg1 ≠ iR q) ∧ (main_arg2 ≠ gR q ∧ main_arg2 ≠ iR q) := by decide
  have hg (q') (hq : q' ≠ q) := gOf_congr q' (hoff _ (hne q q' hq).1.1 (hne q q' hq).1.2)
  have hi (q') (hq : q' ≠ q) := iOf_congr q' (hoff _ (hne q q' hq).2.1 (hne q q' hq).2.2)
  refine ⟨(hoff _ (harg q).1.1 (harg q).1.2).trans h.a0, (hoff _ (harg q).2.1.1 (harg q).2.1.2).trans h.a1,
    (hoff _ (harg q).2.2.1 (harg q).2.2.2).trans h.a2, fun q' hq => ?_, fun q' hq => ?_⟩
  · by_cases e : q' = q
    · subst e; exact ⟨gOf_put _ _ _ _, iOf_put _ _ _ _⟩
    · have := h.past q' (by have := Fin.val_ne_of_ne e; omega)
      exact ⟨(hg q' e).trans this.1, (hi q' e).trans this.2⟩
  · have e : q' ≠ q := by rintro rfl; omega
    have := h.todo q' (by omega)
    exact ⟨(hg q' e).trans this.1, (hi q' e).trans this.2⟩

theorem watched_in : ∀ (p : Fin 4), ∀ r ∈ watched, ∀ w : Fin (cfgs p).W, arrRef (cfgs p).spec w = r → ((cfgs p).win w).isOut = false := by decide

/-- A TensorCore call changes none of them. -/
theorem region_watched (V : Valuation τ sig (Elt F)) (p : Fin 4) (d : Dev nD) :
    ∀ r ∈ watched, Pipeline.afterRegion (dat V p d) V (r : DevRef τ sig) = V (r : DevRef τ sig) := fun r hr =>
  Pipeline.afterRegion_keeps (dat V p d) V (layout p).win.arr_inj (fun _ => rfl) r (watched_in p r hr)

/-! ## One chunk -/

/-- One chunk: the host operation `op` that prepares the bias, the TensorCore's call, the SparseCores' call, and the rest. -/
theorem chunk_wp (κ : GSem nD τ sig → ℕ) (d : Dev nD) (q : Fin 4) (V : Valuation τ sig (Elt F)) (op : HloOp τ sig (Elt F)) (hop : op.bufs ⊆ ucRefs τ sig)
    (hf : op.fresh = ∅) (hkeep : ∀ r ∈ watched, op.result V (r : DevRef τ sig) = V (r : DevRef τ sig))
    (hX : xOf q (Pipeline.afterRegion (dat (op.result V) q d) (op.result V)) = logits m q d) (h : Before m d q.val V)
    (rest : PUnit → Prog (TpuEff nD τ sig (Elt F) (SparseCore.Sig (ΛP (F := F)) 4) .tc) PUnit) (Φ : PUnit → sProp 𝕄) :
    iprop((K (F := F)).ctx EH (P (found m)) κ ∗ (K (F := F)).tcSt EH d q.val ∗ boundary (d.tc : Thread nD τ)
        ∗ StableHlo.held (d.tc : Thread nD τ) (ucRefs τ sig) V
        ∗ Pipeline.cellsGhost (Pipeline.pin (pcfgs (F := F)) adm) EP q d ∗ Pipeline.toksInit (Pipeline.pin (pcfgs (F := F)) adm) EP q d
        ∗ (∀ V' : Valuation τ sig (Elt F), ⌜Before m d (q.val + 1) V'⌝
            -∗ ((K (F := F)).tcSt EH d (q.val + 1) ∗ boundary (d.tc : Thread nD τ) ∗ StableHlo.held (d.tc : Thread nD τ) (ucRefs τ sig) V')
            -∗ wp frame (wpE ((K (F := F)).defs D) 𝒱 (SparseCore.T d) none) Set.univ (rest ⟨⟩) Φ))
      ⊢ wp frame (wpE ((K (F := F)).defs D) 𝒱 (SparseCore.T d) none) Set.univ
          ((hlo rfl op (fun _ => .ret ⟨⟩) : Prog (TpuEff nD τ sig (Elt F) (SparseCore.Sig (ΛP (F := F)) 4) .tc) PUnit) >>= fun _ => Prog.lift (.customCall (SparseCore.inner (Pipeline.entry q)) ()) >>= fun _ =>
            (K (F := F)).run d q >>= rest) Φ := by
  have hb := (h.congr hkeep).congr (region_watched (op.result V) q d)
  simp only [wp_bind]
  iintro ⟨#Hctx, Hst, Hb, Hh, Hg, Ht, Hk⟩
  iapply (StableHlo.wp_hlo_within 𝒱 (SparseCore.T d) none Set.univ (V := V) hop hf) $$ [Hb Hh]
  · isplitl [Hb] <;> iassumption
  iintro ⟨Hb, Hh⟩
  rw [wp_ret]
  imodintro
  ihave Hst := (show (K (F := F)).tcSt EH d q.val ⊢ iprop(owing d q.val ∗ (owing d q.val -∗ (K (F := F)).tcSt EH d q.val)) from by
    unfold SparseCore.Cfg.tcSt
    iintro ⟨H, Hr⟩
    isplitl [H]; · iexact H
    iintro H
    isplitl [H] <;> iassumption) $$ Hst
  icases Hst with ⟨Ho, Hst⟩
  iapply (region_wp (op.result V) q d)
  isplitl [Hb]; · iexact Hb
  isplitl [Hh]; · iexact Hh
  isplitl [Ho]; · iexact Ho
  isplitr; · iapply (SparseCore.Cfg.ctx_levAts κ); iexact Hctx
  isplitl [Hg]; · iexact Hg
  isplitl [Ht]; · iexact Ht
  iintro ⟨Hb, Hh, Ho⟩
  ihave Hst := Hst $$ Ho
  iapply (run_wp (found m) κ d q (Pipeline.afterRegion (dat (op.result V) q d) (op.result V)) hX (hb.todo q le_rfl).1 (hb.todo q le_rfl).2)
  isplitr; · iexact Hctx
  isplitl [Hst]; · iexact Hst
  isplitl [Hh]; · iexact Hh
  iintro ⟨Hst, Hh⟩
  iapply Hk $$ %(put q (gatesOf (logits m q d)) (idxsOf (logits m q d)) (Pipeline.afterRegion (dat (op.result V) q d) (op.result V))) []
  · ipureintro; exact hb.put
  isplitl [Hst]; · iexact Hst
  isplitl [Hb]; · iexact Hb
  iexact Hh

end Cert.Proof.K

end
-- ==== Proof.Launch.lean ====
/-
  The whole program's run: from any memory every thread ends, the arguments unchanged, the two results the gates and the
  experts of the four chunks, every semaphore at zero.
-/
module

public import proofs.«01_k».proof.Proof.Main

@[expose] public section

noncomputable section

namespace Cert.Proof.K

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs arrRef)

variable {F : FTy → Type} [FloatOps F]

local notation "𝕄" => MT nD τ sig (HIx 4) (Elt F) ℕ UU ℕ

variable (m : (ℓ : Loc nD τ sig) → Buf (Elt F) ℓ) (ρ : Dev nD → PrngReg)

/-! ## What each TensorCore call leaves in its logits' array -/

section After

variable {m} {d : Dev nD} {V : Valuation τ sig (Elt F)} (h0 : V main_arg0 = at₀ m d main_arg0) (h1 : V main_arg1 = at₀ m d main_arg1)
include h0 h1

theorem logitsOf_at (q : Fin 4) {B : S64x1.Idx → Elt F .f32} (hB : B = shapeCast S64x1 (at₀ m d main_arg2) shapeCasts_S64_S64x1) :
    logitsOf q (V main_arg0) (V main_arg1) B = logits m q d := by rw [h0, h1, hB]; rfl

theorem after0 (h2 : (V main_v0 : S64x1.Idx → Elt F .f32) = shapeCast S64x1 (at₀ m d main_arg2) shapeCasts_S64_S64x1) :
    xOf 0 (Pipeline.afterRegion (dat V 0 d) V) = logits m 0 d :=
  ((Pipeline.afterRegion_arr (dat V 0 d) V (layout 0).win.arr_inj (3 : Fin 4)).trans (logits0 V d)).trans (logitsOf_at h0 h1 0 h2)
theorem after1 (h2 : (V main_v3 : S64x1.Idx → Elt F .f32) = shapeCast S64x1 (at₀ m d main_arg2) shapeCasts_S64_S64x1) :
    xOf 1 (Pipeline.afterRegion (dat V 1 d) V) = logits m 1 d :=
  ((Pipeline.afterRegion_arr (dat V 1 d) V (layout 1).win.arr_inj (3 : Fin 4)).trans (logits1 V d)).trans (logitsOf_at h0 h1 1 h2)
theorem after2 (h2 : (V main_v6 : S64x1.Idx → Elt F .f32) = shapeCast S64x1 (at₀ m d main_arg2) shapeCasts_S64_S64x1) :
    xOf 2 (Pipeline.afterRegion (dat V 2 d) V) = logits m 2 d :=
  ((Pipeline.afterRegion_arr (dat V 2 d) V (layout 2).win.arr_inj (3 : Fin 4)).trans (logits2 V d)).trans (logitsOf_at h0 h1 2 h2)
theorem after3 (h2 : (V main_v9 : S64x1.Idx → Elt F .f32) = shapeCast S64x1 (at₀ m d main_arg2) shapeCasts_S64_S64x1) :
    xOf 3 (Pipeline.afterRegion (dat V 3 d) V) = logits m 3 d :=
  ((Pipeline.afterRegion_arr (dat V 3 d) V (layout 3).win.arr_inj (3 : Fin 4)).trans (logits3 V d)).trans (logitsOf_at h0 h1 3 h2)

end After

/-! ## The end of the main program -/

/-- At the end: the arguments as launched, the results in place. -/
structure Final (d : Dev nD) (V : Valuation τ sig (Elt F)) : Prop where
  a0 : V main_arg0 = at₀ m d main_arg0
  a1 : V main_arg1 = at₀ m d main_arg1
  a2 : V main_arg2 = at₀ m d main_arg2
  gates : V main_v14 = gatesRes m d
  idxs : V main_v15 = idxsRes m d

/-- The four operations after the last chunk. -/
abbrev op12 : HloOp τ sig (Elt F) := StableHlo.nary ![main_v2_0, main_v5_0, main_v8_0, main_v11_0] main_v12
  (fun u => (concatenate S8x32768 1 [⟨S8x8192, (u 0 : (⟨S8x8192, .f32⟩ : BufTy).Contents (Elt F))⟩, ⟨S8x8192, (u 1 : (⟨S8x8192, .f32⟩ : BufTy).Contents (Elt F))⟩,
    ⟨S8x8192, (u 2 : (⟨S8x8192, .f32⟩ : BufTy).Contents (Elt F))⟩, ⟨S8x8192, (u 3 : (⟨S8x8192, .f32⟩ : BufTy).Contents (Elt F))⟩]
    concatenates_S8x8192_S8x8192_S8x8192_S8x8192_S8x32768_d1 : (⟨S8x32768, .f32⟩ : BufTy).Contents (Elt F)))
abbrev op13 : HloOp τ sig (Elt F) := StableHlo.nary ![main_v2_1, main_v5_1, main_v8_1, main_v11_1] main_v13
  (fun u => (concatenate S8x32768 1 [⟨S8x8192, (u 0 : (⟨S8x8192, .i32⟩ : BufTy).Contents (Elt F))⟩, ⟨S8x8192, (u 1 : (⟨S8x8192, .i32⟩ : BufTy).Contents (Elt F))⟩,
    ⟨S8x8192, (u 2 : (⟨S8x8192, .i32⟩ : BufTy).Contents (Elt F))⟩, ⟨S8x8192, (u 3 : (⟨S8x8192, .i32⟩ : BufTy).Contents (Elt F))⟩]
    concatenates_S8x8192_S8x8192_S8x8192_S8x8192_S8x32768_d1 : (⟨S8x32768, .i32⟩ : BufTy).Contents (Elt F)))
abbrev op14 : HloOp τ sig (Elt F) := StableHlo.unary main_v12 main_v14 ((transpose S32768x8 [1, 0] · transposes_S8x32768_S32768x8_1_0) :
  (⟨S8x32768, .f32⟩ : BufTy).Contents (Elt F) → (⟨S32768x8, .f32⟩ : BufTy).Contents (Elt F))
abbrev op15 : HloOp τ sig (Elt F) := StableHlo.unary main_v13 main_v15 ((transpose S32768x8 [1, 0] · transposes_S8x32768_S32768x8_1_0) :
  (⟨S8x32768, .i32⟩ : BufTy).Contents (Elt F) → (⟨S32768x8, .i32⟩ : BufTy).Contents (Elt F))

variable {m} in
theorem Before.final {d : Dev nD} {V : Valuation τ sig (Elt F)} (h : Before m d 4 V) :
    Final m d ((op15 (F := F)).result ((op14 (F := F)).result ((op13 (F := F)).result ((op12 (F := F)).result V)))) := by
  have hoff (r : Ref sig .tc) (hr : r ≠ main_v12 ∧ r ≠ main_v13 ∧ r ≠ main_v14 ∧ r ≠ main_v15) :
      (op15 (F := F)).result ((op14 (F := F)).result ((op13 (F := F)).result ((op12 (F := F)).result V))) (r : DevRef τ sig) = V r :=
    (StableHlo.result_of_writes_ne op15 _ main_v15 r rfl hr.2.2.2).trans ((StableHlo.result_of_writes_ne op14 _ main_v14 r rfl hr.2.2.1).trans
      ((StableHlo.result_of_writes_ne op13 _ main_v13 r rfl hr.2.1).trans (StableHlo.result_of_writes_ne op12 _ main_v12 r rfl hr.1)))
  have g0 : V main_v2_0 = gatesOf (logits m 0 d) := (h.past 0 (by decide)).1
  have g1 : V main_v5_0 = gatesOf (logits m 1 d) := (h.past 1 (by decide)).1
  have g2 : V main_v8_0 = gatesOf (logits m 2 d) := (h.past 2 (by decide)).1
  have g3 : V main_v11_0 = gatesOf (logits m 3 d) := (h.past 3 (by decide)).1
  have i0 : V main_v2_1 = idxsOf (logits m 0 d) := (h.past 0 (by decide)).2
  have i1 : V main_v5_1 = idxsOf (logits m 1 d) := (h.past 1 (by decide)).2
  have i2 : V main_v8_1 = idxsOf (logits m 2 d) := (h.past 2 (by decide)).2
  have i3 : V main_v11_1 = idxsOf (logits m 3 d) := (h.past 3 (by decide)).2
  have e12 : (op12 (F := F)).result V main_v12 = concatenate S8x32768 1 [⟨S8x8192, gatesOf (logits m 0 d)⟩, ⟨S8x8192, gatesOf (logits m 1 d)⟩,
      ⟨S8x8192, gatesOf (logits m 2 d)⟩, ⟨S8x8192, gatesOf (logits m 3 d)⟩] concatenates_S8x8192_S8x8192_S8x8192_S8x8192_S8x32768_d1 := by
    rw [← g0, ← g1, ← g2, ← g3]; exact StableHlo.nary_result _ _ _ _ _ V
  have e13 : (op13 (F := F)).result ((op12 (F := F)).result V) main_v13 = concatenate S8x32768 1 [⟨S8x8192, idxsOf (logits m 0 d)⟩, ⟨S8x8192, idxsOf (logits m 1 d)⟩,
      ⟨S8x8192, idxsOf (logits m 2 d)⟩, ⟨S8x8192, idxsOf (logits m 3 d)⟩] concatenates_S8x8192_S8x8192_S8x8192_S8x8192_S8x32768_d1 := by
    rw [← i0, ← i1, ← i2, ← i3]; exact StableHlo.nary_result _ _ _ _ _ ((op12 (F := F)).result V)
  refine ⟨(hoff _ (by decide)).trans h.a0, (hoff _ (by decide)).trans h.a1, (hoff _ (by decide)).trans h.a2, ?_, ?_⟩
  · refine (StableHlo.result_of_writes_ne op15 _ main_v15 main_v14 rfl (by decide)).trans ((StableHlo.unary_result _ _ _ _ _ _).trans ?_)
    rw [StableHlo.result_of_writes_ne op13 _ main_v13 main_v12 rfl (by decide), e12]; rfl
  · refine (StableHlo.unary_result _ _ _ _ _ _).trans ?_
    rw [StableHlo.result_of_writes_ne op14 _ main_v14 main_v13 rfl (by decide), e13]; rfl

/-- What a TensorCore is left with. -/
abbrev FIN (d : Dev nD) : sProp 𝕄 := iprop(∃ V, ⌜Final m d V⌝ ∗ StableHlo.held (d.tc : Thread nD τ) (ucRefs τ sig) V)

/-- What the launch deals a TensorCore for its four calls. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem bigSep_four (Φ : Fin 4 → sProp 𝕄) : (bigSep Finset.univ Φ) = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- A reshape of the bias changes none of the watched arrays. -/
theorem reshape_watched (V : Valuation τ sig (Elt F)) (y : Ref sig .tc) (hy : y ∉ watched) (he hn hx hy') :
    ∀ r ∈ watched, (StableHlo.reshape (τ := τ) (Val := Elt F) main_arg2 y he hn hx hy').result V (r : DevRef τ sig) = V (r : DevRef τ sig) := fun _ hr =>
  StableHlo.result_of_writes_ne _ V y _ rfl fun e => hy (e ▸ hr)

/-- Every operation's buffers are among the arrays. -/
theorem sub_v0 : ({(main_arg2 : DevRef τ sig), (main_v0 : DevRef τ sig)} : Finset (DevRef τ sig)) ⊆ ucRefs τ sig := by decide
theorem sub_v3 : ({(main_arg2 : DevRef τ sig), (main_v3 : DevRef τ sig)} : Finset (DevRef τ sig)) ⊆ ucRefs τ sig := by decide
theorem sub_v6 : ({(main_arg2 : DevRef τ sig), (main_v6 : DevRef τ sig)} : Finset (DevRef τ sig)) ⊆ ucRefs τ sig := by decide
theorem sub_v9 : ({(main_arg2 : DevRef τ sig), (main_v9 : DevRef τ sig)} : Finset (DevRef τ sig)) ⊆ ucRefs τ sig := by decide
theorem sub_op12 : (insert (main_v12 : DevRef τ sig) (Finset.univ.image fun k : Fin 4 => ((![main_v2_0, main_v5_0, main_v8_0, main_v11_0] k : Ref sig .tc) : DevRef τ sig)))
    ⊆ ucRefs τ sig := by decide
theorem sub_op13 : (insert (main_v13 : DevRef τ sig) (Finset.univ.image fun k : Fin 4 => ((![main_v2_1, main_v5_1, main_v8_1, main_v11_1] k : Ref sig .tc) : DevRef τ sig)))
    ⊆ ucRefs τ sig := by decide
theorem sub_op14 : ({(main_v12 : DevRef τ sig), (main_v14 : DevRef τ sig)} : Finset (DevRef τ sig)) ⊆ ucRefs τ sig := by decide
theorem sub_op15 : ({(main_v13 : DevRef τ sig), (main_v15 : DevRef τ sig)} : Finset (DevRef τ sig)) ⊆ ucRefs τ sig := by decide

theorem sub_a0 : ({(main_arg0 : DevRef τ sig)} : Finset (DevRef τ sig)) ⊆ ucRefs τ sig := by decide
theorem sub_a1 : ({(main_arg1 : DevRef τ sig)} : Finset (DevRef τ sig)) ⊆ ucRefs τ sig := by decide
theorem sub_a2 : ({(main_arg2 : DevRef τ sig)} : Finset (DevRef τ sig)) ⊆ ucRefs τ sig := by decide
theorem sub_r0 : ({(main_v14 : DevRef τ sig)} : Finset (DevRef τ sig)) ⊆ ucRefs τ sig := by decide
theorem sub_r1 : ({(main_v15 : DevRef τ sig)} : Finset (DevRef τ sig)) ⊆ ucRefs τ sig := by decide

/-- The main program on device `d`'s TensorCore. -/
theorem hmain (κ : GSem nD τ sig → ℕ) (d : Dev nD) :
    iprop((K (F := F)).ctx EH (P (found m)) κ ∗ (K (F := F)).tcSt EH d 0 ∗ (K (F := F)).tcRes m ρ d ∗ G d)
      ⊢ wp frame (wpE ((K (F := F)).defs D) 𝒱 (SparseCore.T d) none) Set.univ (main d)
          fun _ => iprop((K (F := F)).tcSt EH d 4 ∗ FIN m d ∗ (K (F := F)).tcEnd d) := by
  have hV0 : Before m d 0 (at₀ m d) := ⟨rfl, rfl, rfl, fun q hq => absurd hq (Nat.not_lt_zero _), fun q _ => ⟨rfl, rfl⟩⟩
  unfold SparseCore.Cfg.tcRes SparseCore.Cfg.tcEnd G
  rw [show unscopedBufs d (fun b => m ((SparseCore.T d : Thread nD τ).loc b)) = StableHlo.held (d.tc : Thread nD τ) (ucRefs τ sig) (at₀ m d)
    from Pipeline.unscopedBufs_held d (at₀ m d), bigSep_four, bigSep_four]
  iintro ⟨#Hctx, Hst, ⟨Hb, Hh, Hts, -⟩, ⟨Hg0, Hg1, Hg2, Hg3⟩, Ht0, Ht1, Ht2, Ht3⟩
  unfold main
  iapply (chunk_wp κ d 0 (at₀ m d) _ (by exact sub_v0) rfl (reshape_watched _ _ (by decide) _ _ _ _)
    (after0 (hV0.congr (reshape_watched _ _ (by decide) _ _ _ _)).a0 (hV0.congr (reshape_watched _ _ (by decide) _ _ _ _)).a1
      ((StableHlo.reshape_result _ _ _ _ _ _ _).trans (congrArg (shapeCast S64x1 · shapeCasts_S64_S64x1) hV0.a2))) hV0)
  isplitr; · iexact Hctx
  isplitl [Hst]; · iexact Hst
  isplitl [Hb]; · iexact Hb
  isplitl [Hh]; · iexact Hh
  isplitl [Hg0]; · iexact Hg0
  isplitl [Ht0]; · iexact Ht0
  iintro %V1 %hV1 ⟨Hst, Hb, Hh⟩
  iapply (chunk_wp κ d 1 V1 _ (by exact sub_v3) rfl (reshape_watched _ _ (by decide) _ _ _ _)
    (after1 (hV1.congr (reshape_watched _ _ (by decide) _ _ _ _)).a0 (hV1.congr (reshape_watched _ _ (by decide) _ _ _ _)).a1
      ((StableHlo.reshape_result _ _ _ _ _ _ _).trans (congrArg (shapeCast S64x1 · shapeCasts_S64_S64x1) hV1.a2))) hV1)
  isplitr; · iexact Hctx
  isplitl [Hst]; · iexact Hst
  isplitl [Hb]; · iexact Hb
  isplitl [Hh]; · iexact Hh
  isplitl [Hg1]; · iexact Hg1
  isplitl [Ht1]; · iexact Ht1
  iintro %V2 %hV2 ⟨Hst, Hb, Hh⟩
  iapply (chunk_wp κ d 2 V2 _ (by exact sub_v6) rfl (reshape_watched _ _ (by decide) _ _ _ _)
    (after2 (hV2.congr (reshape_watched _ _ (by decide) _ _ _ _)).a0 (hV2.congr (reshape_watched _ _ (by decide) _ _ _ _)).a1
      ((StableHlo.reshape_result _ _ _ _ _ _ _).trans (congrArg (shapeCast S64x1 · shapeCasts_S64_S64x1) hV2.a2))) hV2)
  isplitr; · iexact Hctx
  isplitl [Hst]; · iexact Hst
  isplitl [Hb]; · iexact Hb
  isplitl [Hh]; · iexact Hh
  isplitl [Hg2]; · iexact Hg2
  isplitl [Ht2]; · iexact Ht2
  iintro %V3 %hV3 ⟨Hst, Hb, Hh⟩
  iapply (chunk_wp κ d 3 V3 _ (by exact sub_v9) rfl (reshape_watched _ _ (by decide) _ _ _ _)
    (after3 (hV3.congr (reshape_watched _ _ (by decide) _ _ _ _)).a0 (hV3.congr (reshape_watched _ _ (by decide) _ _ _ _)).a1
      ((StableHlo.reshape_result _ _ _ _ _ _ _).trans (congrArg (shapeCast S64x1 · shapeCasts_S64_S64x1) hV3.a2))) hV3)
  isplitr; · iexact Hctx
  isplitl [Hst]; · iexact Hst
  isplitl [Hb]; · iexact Hb
  isplitl [Hh]; · iexact Hh
  isplitl [Hg3]; · iexact Hg3
  isplitl [Ht3]; · iexact Ht3
  iintro %V4 %hV4 ⟨Hst, Hb, Hh⟩
  simp only [wp_bind]
  iapply (StableHlo.wp_hlo_within 𝒱 (SparseCore.T d) none Set.univ (op := op12) (V := V4) (by exact sub_op12) rfl) $$ [Hb Hh]
  · isplitl [Hb] <;> iassumption
  iintro ⟨Hb, Hh⟩
  rw [wp_ret]; imodintro
  iapply (StableHlo.wp_hlo_within 𝒱 (SparseCore.T d) none Set.univ (op := op13) (V := op12.result V4) (by exact sub_op13) rfl) $$ [Hb Hh]
  · isplitl [Hb] <;> iassumption
  iintro ⟨Hb, Hh⟩
  rw [wp_ret]; imodintro
  iapply (StableHlo.wp_hlo_within 𝒱 (SparseCore.T d) none Set.univ (op := op14) (V := op13.result (op12.result V4)) (by exact sub_op14) rfl) $$ [Hb Hh]
  · isplitl [Hb] <;> iassumption
  iintro ⟨Hb, Hh⟩
  rw [wp_ret]; imodintro
  iapply (StableHlo.wp_hlo_within 𝒱 (SparseCore.T d) none Set.univ (op := op15) (V := op14.result (op13.result (op12.result V4)))
    (by exact sub_op15) rfl) $$ [Hb Hh]
  · isplitl [Hb] <;> iassumption
  iintro ⟨Hb, Hh⟩
  rw [wp_ret]; imodintro
  rw [wp_pure]; imodintro
  isplitl [Hst]; · iexact Hst
  isplitl [Hh]
  · iexists _; isplitr; · ipureintro; exact hV4.final
    iexact Hh
  isplitl [Hb] <;> iassumption

/-! ## The launch -/

/-- The launch's ghost state: the handshakes' rounds, the pipelines' rounds, no transfer yet. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The pipelines' rounds, owned where the program's resource algebra keeps them. -/
theorem own_EP (a : UR sig nD τ) : (BI.own (((Emb.inl : Emb (UR sig nD τ) (UR sig nD τ × Counters)).trans (embR : Emb _ 𝕄)) a) : sProp 𝕄)
    = BI.own (EP (F := F) a) := by
  unfold EP; rfl

/-- Two families side by side are the family of the two. -/
theorem dealt (Φ Ψ : Dev nD → sProp 𝕄) : iprop((bigSep Finset.univ Φ) ∗ bigSep Finset.univ Ψ) ⊢ bigSep Finset.univ fun d => iprop(Φ d ∗ Ψ d) :=
  Entails.of_eq (BI.bigSep_sep Finset.univ Φ Ψ).symm

/-- The launch's ghost state, dealt: the handshakes' to the calls, the pipelines' to the devices. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P (found m)).x q thr) := by
  unfold u₀ G
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UR sig nD τ × Counters)) $$ Hu
  icases H with ⟨HH, HR⟩
  ihave HR := (own_pair_emb (embR : Emb (UR sig nD τ × Counters) 𝕄)
    (initOf (Pipeline.cells (Pipeline.pin (pcfgs (F := F)) adm) cellOf_inj) (Pipeline.launchToks (Pipeline.pin (pcfgs (F := F)) adm) cellOf_inj)) (1 : Counters)) $$ HR
  icases HR with ⟨HP, -⟩
  ihave HP := (Entails.of_eq (own_EP _)) $$ HP
  imod (Pipeline.fund_ghost (Pipeline.pin (pcfgs (F := F)) adm) (EP (F := F)) cellOf_inj) $$ HP with ⟨Hg, Ht⟩
  imodintro
  isplitl [HH]; · iexact HH
  isplitl [Hg Ht]
  · iapply (dealt (fun d : Dev nD => bigSep Finset.univ fun p : Fin 4 => Pipeline.cellsGhost (Pipeline.pin (pcfgs (F := F)) adm) EP p d)
      fun d : Dev nD => bigSep Finset.univ fun p : Fin 4 => Pipeline.toksInit (Pipeline.pin (pcfgs (F := F)) adm) EP p d)
    isplitl [Hg] <;> iassumption
  rw [show (bigSep Finset.univ fun thr : Thread nD τ => bigSep Finset.univ fun q : Fin 4 => (P (found m)).x q thr) = bigSep Finset.univ fun _ : Thread nD τ => (BI.emp : sProp 𝕄) from
    bigSep_congr fun _ _ => BI.bigSep_emp_const _, BI.bigSep_emp_const]
  iempintro

/-- What the final memory of device `d` holds: the arguments as launched, and the two results. -/
def fq (d : Dev nD) (s' : Phys nD τ sig (Elt F)) : Prop :=
  (s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2))
  ∧ s'.mem.mem ((d.tc : Thread nD τ).loc main_v14) = gatesRes m d ∧ s'.mem.mem ((d.tc : Thread nD τ).loc main_v15) = idxsRes m d

/-- An array held whole at `V` has `V`'s contents in the memory. -/
theorem held_agrees (d : Dev nD) (V : Valuation τ sig (Elt F)) (b : Ref sig .tc) (hb : ({(b : DevRef τ sig)} : Finset (DevRef τ sig)) ⊆ ucRefs τ sig)
    (s' : Phys nD τ sig (Elt F)) :
    iprop(StableHlo.held (d.tc : Thread nD τ) (ucRefs τ sig) V ∗ SI s')
      ⊢ (⌜s'.mem.mem ((d.tc : Thread nD τ).loc b) = V b⌝ : sProp 𝕄) := by
  iintro ⟨Hh, HSI⟩
  ihave Hh := (Entails.of_eq (StableHlo.held_sub_split (d.tc : Thread nD τ) hb V)) $$ Hh
  icases Hh with ⟨Hb, -⟩
  ihave Hb := (Entails.of_eq (show StableHlo.held (d.tc : Thread nD τ) {(b : DevRef τ sig)} V = iprop(((d.tc : Thread nD τ).loc b) ↦{fullShare} V b) from bigSep_singleton)) $$ Hb
  ihave H := (SI_pointsTo_agree (st := s') (ℓ := (d.tc : Thread nD τ).loc b) (I := Finset.univ) (q := fullShare) (f := V b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  unfold FIN
  iintro ⟨⟨%V, %hV, Hh⟩, HSI⟩
  ihave H := (persistent_entails_right (held_agrees d V main_arg0 sub_a0 s')) $$ [Hh HSI]
  · isplitl [Hh] <;> iassumption
  icases H with ⟨%h0, Hh, HSI⟩
  ihave H := (persistent_entails_right (held_agrees d V main_arg1 sub_a1 s')) $$ [Hh HSI]
  · isplitl [Hh] <;> iassumption
  icases H with ⟨%h1, Hh, HSI⟩
  ihave H := (persistent_entails_right (held_agrees d V main_arg2 sub_a2 s')) $$ [Hh HSI]
  · isplitl [Hh] <;> iassumption
  icases H with ⟨%h2, Hh, HSI⟩
  ihave H := (persistent_entails_right (held_agrees d V main_v14 sub_r0 s')) $$ [Hh HSI]
  · isplitl [Hh] <;> iassumption
  icases H with ⟨%h3, Hh, HSI⟩
  ihave H := (held_agrees d V main_v15 sub_r1 s') $$ [Hh HSI]
  · isplitl [Hh] <;> iassumption
  icases H with %h4
  ipureintro
  exact ⟨⟨h0.trans hV.a0, h1.trans hV.a1, h2.trans hV.a2⟩, h3.trans hV.gates, h4.trans hV.idxs⟩

/-- The program's post: every device as `fq` says, every semaphore at zero. -/
def QC : PUnit × MemSt nD τ sig (Elt F) → Prop := fun r =>
  (∀ d : Dev nD, (r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2))
    ∧ r.2.mem ((d.tc : Thread nD τ).loc main_v14) = gatesRes m d ∧ r.2.mem ((d.tc : Thread nD τ).loc main_v15) = idxsRes m d)
  ∧ r.2.sem = fun _ => 0

/-- The kernel program terminates without a fault, its arguments kept, its two results as computed, every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (found m)) (A := ∅) facts v₀
    (fun q hq => match q with | 0 => nomatch hq | 1 => nomatch hq | 2 => nomatch hq | 3 => nomatch hq)
    (fun q _ => tileObl (found m) q)
    (fun q _ => SparseCore.Cfg.VecSplit.of_plain (vecSplit (found m) q))
    m ρ main (G (F := F)) (FIN m) (u₀ (F := F)) (sep_elim_left.trans (hu₀ m)) (hmain m ρ) (fq m) (hfin m) (QC m) (fun _ h hz => ⟨h, hz⟩)

end Cert.Proof.K

end
-- ==== Proof.SameDefs.lean ====
/-
  The kernel program and its idealized form are one text, so at one instance they are one program.
-/
module

public import proofs.«01_k».proof.Defs
public import proofs.«01_k».proof.Proof.Gen.KernelIdeal
public import proofs.«01_k».proof.Proof.Gen.Kernel

@[expose] public section

noncomputable section

namespace Cert.Proof.K

open Idealize.ShloMosaic

set_option maxRecDepth 100000 in
set_option maxHeartbeats 2000000 in
/-- The two programs' kernels are the same, label by label. -/
theorem defs₀_eq : @Cert.Kernel.defs₀ Bits _ _ = @Cert.KernelIdeal.defs₀ Bits _ _ := by
  funext p l a
  match p, l, a with
  | .tc, 0, (_, _) => rfl
  | .tc, 1, _ => simp only [Cert.Kernel.defs₀, Cert.KernelIdeal.defs₀]; rfl
  | .tc, 2, (_, _) => rfl
  | .tc, 3, _ => simp only [Cert.Kernel.defs₀, Cert.KernelIdeal.defs₀]; rfl
  | .tc, 4, (_, _) => rfl
  | .tc, 5, _ => simp only [Cert.Kernel.defs₀, Cert.KernelIdeal.defs₀]; rfl
  | .tc, 6, (_, _) => rfl
  | .tc, 7, _ => simp only [Cert.Kernel.defs₀, Cert.KernelIdeal.defs₀]; rfl
  | .scScalar _, 0, _ => simp only [Cert.Kernel.defs₀, Cert.KernelIdeal.defs₀]; rfl
  | .scScalar _, 1, _ => simp only [Cert.Kernel.defs₀, Cert.KernelIdeal.defs₀]; rfl
  | .scScalar _, 2, _ => simp only [Cert.Kernel.defs₀, Cert.KernelIdeal.defs₀]; rfl
  | .scScalar _, 3, _ => simp only [Cert.Kernel.defs₀, Cert.KernelIdeal.defs₀]; rfl
  | .scScalar _, 4, _ => simp only [Cert.Kernel.defs₀, Cert.KernelIdeal.defs₀]; rfl
  | .scScalar _, 5, _ => simp only [Cert.Kernel.defs₀, Cert.KernelIdeal.defs₀]; rfl
  | .scScalar _, 6, _ => simp only [Cert.Kernel.defs₀, Cert.KernelIdeal.defs₀]; rfl
  | .scScalar _, 7, _ => simp only [Cert.Kernel.defs₀, Cert.KernelIdeal.defs₀]; rfl
  | .scVector _ _, 0, _ => simp only [Cert.Kernel.defs₀, Cert.KernelIdeal.defs₀]; rfl
  | .scVector _ _, 1, _ => rfl
  | .scVector _ _, 2, _ => simp only [Cert.Kernel.defs₀, Cert.KernelIdeal.defs₀]; rfl
  | .scVector _ _, 3, _ => rfl
  | .scVector _ _, 4, _ => simp only [Cert.Kernel.defs₀, Cert.KernelIdeal.defs₀]; rfl
  | .scVector _ _, 5, _ => rfl
  | .scVector _ _, 6, _ => simp only [Cert.Kernel.defs₀, Cert.KernelIdeal.defs₀]; rfl
  | .scVector _ _, 7, _ => rfl

/-- The two programs' definitions are the same. -/
theorem defs_eq : Cert.Kernel.defs (F := Bits) = Cert.KernelIdeal.defs (F := Bits) :=
  congrArg (fun x => (Cert.KernelIdeal.sc (F := Bits)).defs (Pipeline.defs Cert.KernelIdeal.pcfgs x)) defs₀_eq

end Cert.Proof.K

end
-- ==== Proof.Frames.lean ====
/-
  The kernel program, as printed and idealized, and the reference run: each ends with its arguments unchanged and every
  semaphore at zero.
-/
module

public import proofs.«01_k».proof.Proof.Launch
public import proofs.«01_k».proof.Proof.SameDefs
public import proofs.«01_k».proof.Proof.Gen.ReferenceIdeal.Run

@[expose] public section

noncomputable section

namespace Cert.Proof.K

open Idealize.ShloMosaic Idealize.SL.Sem

/-- The idealized kernel program keeps its arguments and ends quiescent. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The kernel program runs as its idealized form's text does, over the machine's floats. -/
theorem run_kernel (m : (ℓ : Loc Cert.KernelIdeal.nD Cert.KernelIdeal.τ Cert.KernelIdeal.sig) → Buf (Elt Bits) ℓ) (ρ : Dev Cert.KernelIdeal.nD → PrngReg) :
    θ_run (Cert.Kernel.defs (F := Bits)) (Cert.Kernel.threads (F := Bits)) ⟨m, fun _ => 0, ρ⟩ (QC m) := by
  rw [defs_eq]
  exact run_main (F := Bits) m ρ

/-- The kernel program keeps its arguments and ends quiescent. -/
theorem frame_kernel : Cert.quiescent_Kernel := fun m ρ _ =>
  (θ_run Cert.Kernel.defs _ _).mono (fun _ h => ⟨fun c => (h.1 c).1, h.2⟩) (run_kernel m ρ)

/-- The reference keeps its arguments; it has no semaphore. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof.K

end
-- ==== Proof.Score.lean ====
/-
  The logits over the extended reals, as sums: the logit of token `n` at expert `e` is row `n` of x against row `e` of W
  plus the bias (`score`). The TensorCore kernel's blocks (`logitsOf_apply`) and the reference's product
  (`val_main_v4_score`) are these sums.
-/
module

public import proofs.«01_k».proof.Proof.Main
public import proofs.«01_k».proof.Proof.Gen.ReferenceIdeal.Read

@[expose] public section

noncomputable section

namespace Cert.Proof.K

open Cert.KernelIdeal Cert.KernelIdeal.Gen
open Idealize.ShloMosaic
open Idealize.ShloMosaic.ValueIdx (ix1 ix2)

/-- The logit of token `n` at expert `e`. -/
def score (X : FVec Ideal S32768x4096 .f32) (W : FVec Ideal S64x4096 .f32) (B : FVec Ideal S64 .f32) (n : Fin 32768) (e : Fin 64) : EReal :=
  (∑ k : Fin 4096, (X (ix2 n k) : EReal) * W (ix2 e k)) + B (ix1 e)

theorem lhs_0 (i : S64x1024.Idx) (q : dot_S64x4096_S1024x4096_S64x1024_1_1_0_0_n_n.contr.Idx) :
    (dot_S64x4096_S1024x4096_S64x1024_1_1_0_0_n_n.lhsIdx i q 0).val = (i 0).val := by
  unfold DotDims.lhsIdx
  rw [dif_neg (show ¬(0 : Fin S64x4096.rank) ∈ dot_S64x4096_S1024x4096_S64x1024_1_1_0_0_n_n.lhsBatch by decide),
    dif_pos (show (0 : Fin S64x4096.rank) ∈ dot_S64x4096_S1024x4096_S64x1024_1_1_0_0_n_n.lhsNonContracting by decide)]
  rfl

theorem rhs_0 (i : S64x1024.Idx) (q : dot_S64x4096_S1024x4096_S64x1024_1_1_0_0_n_n.contr.Idx) :
    (dot_S64x4096_S1024x4096_S64x1024_1_1_0_0_n_n.rhsIdx i q 0).val = (i 1).val := by
  unfold DotDims.rhsIdx
  rw [dif_neg (show ¬(0 : Fin S1024x4096.rank) ∈ dot_S64x4096_S1024x4096_S64x1024_1_1_0_0_n_n.rhsBatch by decide),
    dif_pos (show (0 : Fin S1024x4096.rank) ∈ dot_S64x4096_S1024x4096_S64x1024_1_1_0_0_n_n.rhsNonContracting by decide)]
  rfl

/-- The kernel's block of logits at expert `e` and row `c`: row `e` of the weights against row `c`, plus the bias. -/
theorem block_apply (x : FVec Ideal S1024x4096 .f32) (w : FVec Ideal S64x4096 .f32) (b : FVec Ideal S64x1 .f32) (e : Fin 64) (c : Fin 1024) :
    block (F := Ideal) x w b (ix2 e c) = (∑ k : Fin 4096, (w (ix2 e k) : EReal) * x (ix2 c k)) + b (ix2 e 0) := by
  have hb : broadcastTo S64x1024 (shapeCast S64x1 b shapeCasts_S64x1_S64x1) broadcasts_S64x1_S64x1024 (ix2 e c) = b (ix2 e 0) :=
    (broadcastTo_apply _ broadcasts_S64x1_S64x1024 (ix2 e c) (ix2 e 0) fun a => match a with
      | ⟨0, _⟩ => by show e.val = if (64 : ℕ) = 1 then 0 else e.val; rw [if_neg (by decide)]
      | ⟨1, _⟩ => by show 0 = if (1 : ℕ) = 1 then 0 else c.val; rw [if_pos rfl]).trans
    (shapeCast_apply b shapeCasts_S64x1_S64x1 _ _ rfl)
  show FloatOps.addf (FloatOps.matmul dot_S64x4096_S1024x4096_S64x1024_1_1_0_0_n_n none w x (constant S64x1024 .f32 0x00000000#32) (ix2 e c)) _ = _
  rw [hb, Ideal.addf_def, Ideal.matmul_constant_zero_apply,
    ← Equiv.sum_comp (ValueIdx.contrEquiv1 dot_S64x4096_S1024x4096_S64x1024_1_1_0_0_n_n 4096 rfl rfl).symm]
  refine congrArg (· + (b (ix2 e 0) : EReal)) (Finset.sum_congr rfl fun k _ => ?_)
  have hk := ValueIdx.contrEquiv1_symm_val dot_S64x4096_S1024x4096_S64x1024_1_1_0_0_n_n 4096 rfl rfl k
  refine congrArg₂ (fun a b : EReal => a * b) (congrArg w (funext fun a => Fin.ext ?_)) (congrArg x (funext fun a => Fin.ext ?_))
  · match a with
    | ⟨0, _⟩ => exact lhs_0 _ _
    | ⟨1, _⟩ => exact (DotDims.lhsIdx_val_of_single _ rfl _ _).trans hk
  · match a with
    | ⟨0, _⟩ => exact rhs_0 _ _
    | ⟨1, _⟩ => exact (DotDims.rhsIdx_val_of_single _ rfl _ _).trans hk

/-- The logits of chunk `q` at expert `e` and the chunk's token `c`. -/
theorem logitsOf_apply (q : Fin 4) (X : FVec Ideal S32768x4096 .f32) (W : FVec Ideal S64x4096 .f32) (B : FVec Ideal S64 .f32)
    (e : Fin 64) (c : Fin 8192) (n : Fin 32768) (hn : n.val = 8192 * q.val + c.val) :
    logitsOf (F := Ideal) q X W (shapeCast S64x1 B shapeCasts_S64_S64x1) (ix2 e c) = score X W B n e := by
  have hB : shapeCast S64x1 B shapeCasts_S64_S64x1 (ix2 e 0) = B (ix1 e) :=
    shapeCast_apply B shapeCasts_S64_S64x1 _ _ (by
      rw [Shape.rowMajor_val_one, Shape.rowMajor_val_two]
      show e.val = e.val * 1 + 0
      omega)
  refine (block_apply (xRows (F := Ideal) q X ⟨c.val / 1024, by omega⟩) W _ e ⟨c.val % 1024, by omega⟩).trans ?_
  rw [hB, score]
  refine congrArg (· + (B (ix1 e) : EReal)) (Finset.sum_congr rfl fun k _ => ?_)
  rw [mul_comm]
  refine congrArg (fun z => (X z : EReal) * W (ix2 e k)) (funext fun a => Fin.ext ?_)
  match a with
  | ⟨0, _⟩ => show 8192 * q.val + 1024 * (c.val / 1024) + c.val % 1024 = n.val; omega
  | ⟨1, _⟩ => rfl

/-- The reference's logits. -/
theorem val_main_v4_score (X : FVec Ideal S32768x4096 .f32) (W : FVec Ideal S64x4096 .f32) (B : FVec Ideal S64 .f32) (n : Fin 32768)
    (e : Fin 64) : Cert.ReferenceIdeal.Read.val_main_v4 (F := Ideal) X W B (ix2 n e) = score X W B n e := by
  rw [Cert.ReferenceIdeal.Read.val_main_v4_apply, Cert.ReferenceIdeal.Read.val_main_v1_apply, Cert.ReferenceIdeal.Read.val_main_v3_apply,
    Cert.ReferenceIdeal.Read.val_main_v2_apply, Ideal.addf_def, score]
  refine congrArg₂ (fun a b : EReal => a + b) (Finset.sum_congr rfl fun k _ => ?_) (congrArg B (funext fun a => Fin.ext ?_))
  · rw [Cert.ReferenceIdeal.Read.val_main_v0_apply]
    refine congrArg₂ (fun a b : EReal => a * b) (congrArg X (funext fun a => Fin.ext ?_)) (congrArg W (funext fun a => Fin.ext ?_))
    · match a with
      | ⟨0, _⟩ => rfl
      | ⟨1, _⟩ => rfl
    · match a with
      | ⟨0, _⟩ => rfl
      | ⟨1, _⟩ => rfl
  · match a with
    | ⟨0, _⟩ => rfl

end Cert.Proof.K

end
-- ==== Proof.Results.lean ====
/-
  The kernel's two results over the extended reals, read at token `n` and rank `k`: the gate and the expert of rank `k`
  of that token's sixty-four logits (`gatesRes_apply`, `idxsRes_apply`).
-/
module

public import proofs.«01_k».proof.Proof.Score

@[expose] public section

noncomputable section

namespace Cert.Proof.K

open Cert.KernelIdeal Cert.KernelIdeal.Gen
open Idealize.ShloMosaic Cert.Proof.Trip
open Idealize.ShloMosaic.TcCoe
open Idealize.ShloMosaic.ValueIdx (ix1 ix2)

/-- Four chunks side by side and transposed, read at token `n` and rank `k`: chunk `n / 8192` at its token `n % 8192`. -/
theorem four_apply {α : Type} (f : Fin 4 → S8x8192.Idx → α) (n : Fin 32768) (k : Fin 8) :
    transpose S32768x8 [1, 0] (concatenate S8x32768 1 [⟨S8x8192, f 0⟩, ⟨S8x8192, f 1⟩, ⟨S8x8192, f 2⟩, ⟨S8x8192, f 3⟩]
        concatenates_S8x8192_S8x8192_S8x8192_S8x8192_S8x32768_d1) transposes_S8x32768_S32768x8_1_0 (ix2 n k)
      = f ⟨n.val / 8192, by omega⟩ (ix2 k ⟨n.val % 8192, by omega⟩) := by
  refine (transpose_apply _ _ transposes_S8x32768_S32768x8_1_0 (ix2 n k) (ix2 k n) fun b => match b with
    | ⟨0, _⟩ => rfl
    | ⟨1, _⟩ => rfl).trans ?_
  exact concatenate_ofFn_apply (t := S8x32768) (s₁ := S8x8192) (1 : Fin 2) f
    (show Shape.Concatenates [S8x8192, S8x8192, S8x8192, S8x8192] S8x32768 1 from concatenates_S8x8192_S8x8192_S8x8192_S8x8192_S8x32768_d1)
    rfl 8192 rfl (ix2 (n0 := 8) (n1 := 32768) k n) ⟨n.val / 8192, by omega⟩ rfl (ix2 k ⟨n.val % 8192, by omega⟩) rfl fun b hb => match b, hb with
    | ⟨0, _⟩, _ => rfl
    | ⟨1, _⟩, hb => absurd rfl hb

variable (m : (ℓ : Loc nD τ sig) → Buf (Elt Ideal) ℓ) (d : Dev nD)

/-- Token `n`'s logits, in the kernel's memory. -/
def tokenLogits (n : Fin 32768) (e : Fin 64) : EReal :=
  score (at₀ m d main_arg0) (at₀ m d main_arg1) (at₀ m d main_arg2) n e

theorem logits_apply (n : Fin 32768) (e : Fin 64) :
    logits (F := Ideal) m ⟨n.val / 8192, by omega⟩ d (ix2 e ⟨n.val % 8192, by omega⟩) = tokenLogits m d n e :=
  logitsOf_apply _ (at₀ m d main_arg0) (at₀ m d main_arg1) (at₀ m d main_arg2) e _ n (by show n.val = 8192 * (n.val / 8192) + n.val % 8192; omega)

/-- The first result at token `n` and rank `k`. -/
theorem gatesRes_apply (n : Fin 32768) (k : Fin 8) :
    gatesRes (F := Ideal) m d (ix2 n k) = laneGate (F := Ideal) (tokenLogits m d n) k := by
  refine (four_apply (fun q => gatesOf (F := Ideal) (logits m q d)) n k).trans ?_
  exact congrArg (fun c => laneGate (F := Ideal) c k) (funext fun e => logits_apply m d n e)

/-- The second result at token `n` and rank `k`. -/
theorem idxsRes_apply (n : Fin 32768) (k : Fin 8) :
    idxsRes (F := Ideal) m d (ix2 n k) = laneIdx (F := Ideal) (tokenLogits m d n) k := by
  refine (four_apply (fun q => idxsOf (F := Ideal) (logits m q d)) n k).trans ?_
  exact congrArg (fun c => laneIdx (F := Ideal) c k) (funext fun e => logits_apply m d n e)

end Cert.Proof.K

end
-- ==== Proof.TopEight.lean ====
/-
  The selection network over a linear order, with the exchange that puts the greater entry first: its eight results are
  the eight greatest of the sixty-four entries, greatest first (`top8_of_sorted`). The sort's nineteen exchanges are
  checked on the Boolean inputs; the merge is the descending bitonic merge.
-/
module

public import proofs.«01_k».proof.Proof.Net
public import Idealize.ShloMosaic.Lib.SortNet.Fold
public import Idealize.ShloMosaic.Lib.SortNet.OddEven
public import Idealize.ShloMosaic.Lib.SortNet.TopList

@[expose] public section

namespace Cert.Proof.Net

open Idealize.ShloMosaic.SortNet

variable {α : Type*} [LinearOrder α]

/-- The exchange of a linear order: the greater entry wins. -/
def mm (p q : α) : α × α := (max p q, min p q)

/-- The exchanges at pairs of positions, as a network: the greater entry goes to the first of each pair. -/
def netOf (l : List (Fin 8 × Fin 8)) : Network 8 :=
  l.filterMap fun ab => if h : ab.2 ≠ ab.1 then some ⟨ab.2, ab.1, h⟩ else none

/-- One exchange of the network is one compare-exchange. -/
theorem exch_mm (v : Fin 8 → α) (ab : Fin 8 × Fin 8) (h : ab.2 ≠ ab.1) : exch mm v ab = Cmpx.apply ⟨ab.2, ab.1, h⟩ v := by
  funext k
  simp only [exch, mm, Cmpx.apply]
  by_cases h1 : k = ab.1
  · rw [if_pos h1, if_neg fun h2 => h (h2.symm.trans h1), if_pos h1, max_comm]
  · rw [if_neg h1, if_neg h1, min_comm]

/-- The exchanges at pairs of different positions, run in order, are their network. -/
theorem foldl_exch_mm (l : List (Fin 8 × Fin 8)) (hl : ∀ ab ∈ l, ab.2 ≠ ab.1) (v : Fin 8 → α) :
    l.foldl (exch mm) v = Network.apply (netOf l) v := by
  induction l generalizing v with
  | nil => rfl
  | cons ab l ih =>
    have h := hl ab List.mem_cons_self
    rw [List.foldl_cons, ih (fun ab' h' => hl ab' (List.mem_cons_of_mem _ h')), exch_mm v ab h]
    simp only [netOf, List.filterMap_cons, dif_pos h, Network.apply_cons]

/-- The sort leaves every Boolean input descending. -/
theorem sort8_bool : ∀ b : Fin 8 → Bool, Antitone (Network.apply (netOf sortPairs) b) := by
  decide +kernel

/-- The sort leaves every input descending. -/
theorem sort8_antitone (v : Fin 8 → α) : Antitone (sort8 mm v) := by
  rw [sort8, foldl_exch_mm _ (by decide)]
  exact Network.zero_one_on_antitone _ (fun _ => True) (fun b _ => sort8_bool b) v fun _ => trivial

/-- The sort's results are its inputs in some order. -/
theorem sort8_perm (v : Fin 8 → α) : (List.ofFn (sort8 mm v)).Perm (List.ofFn v) := by
  rw [sort8, foldl_exch_mm _ (by decide)]
  obtain ⟨σ, hσ⟩ := Network.exists_perm (netOf sortPairs) v
  rw [hσ]
  exact Equiv.Perm.ofFn_comp_perm σ v

/-- The merge's exchanges are the descending bitonic merge. -/
theorem netOf_mergePairs : netOf mergePairs = mergeDescNet 3 := by
  rw [← mergePairsNet_eq_mergeDescNet, mergePairsNet_three_eq]
  decide

/-- The merge of two descending eights is descending, and is the eight greatest of the sixteen in order. -/
theorem merge8_spec (A B : Fin 8 → α) (hA : Antitone A) (hB : Antitone B) :
    Antitone (merge8 mm A B) ∧ List.ofFn (merge8 mm A B) = topList 8 (List.ofFn A ++ List.ofFn B) := by
  have h := foldStep 3 A (fun k => B k.rev) hA fun i j hij => hB (Fin.rev_le_rev.mpr hij)
  have e : merge8 mm A B = Network.apply (mergeDescNet 3) fun k => max (A k) (B k.rev) := by
    rw [merge8, foldl_exch_mm _ (by decide), netOf_mergePairs]
    rfl
  have hp : (List.ofFn fun k : Fin 8 => B k.rev).Perm (List.ofFn B) := Equiv.Perm.ofFn_comp_perm Fin.revPerm B
  rw [e]
  exact ⟨h.1, h.2.trans (topList_perm (hp.append_left _))⟩

/-- Group `j` of the entries as they come. -/
def raw (x : Fin 64 → α) (j : Fin 8) : Fin 8 → α := fun t => x ⟨8 * j.val + t.val, by omega⟩

/-- The fold of the groups: descending, and the eight greatest of what went in. -/
theorem foldl_merge8_spec (x : Fin 64 → α) (l : List (Fin 8)) (A : Fin 8 → α) (S : List α) (hA : Antitone A)
    (hS : List.ofFn A = topList 8 S) :
    List.ofFn (l.foldl (fun A j => merge8 mm A (group mm x j)) A)
      = topList 8 (S ++ (l.map fun j => List.ofFn (raw x j)).flatten) := by
  induction l generalizing A S with
  | nil => rw [List.foldl_nil, List.map_nil, List.flatten_nil, List.append_nil, hS]
  | cons j l ih =>
    have h := merge8_spec A (group mm x j) hA (sort8_antitone _)
    rw [List.foldl_cons, ih _ (S ++ List.ofFn (raw x j)) h.1, List.map_cons, List.flatten_cons, List.append_assoc]
    rw [h.2, hS, topList_append_topList]
    exact topList_perm ((sort8_perm (raw x j)).append_left S)

/-- The network's results, in order, are the eight greatest entries in order. -/
theorem ofFn_top8 (x : Fin 64 → α) : List.ofFn (top8 mm x) = topList 8 (List.ofFn x) := by
  have h0 : List.ofFn (group mm x 0) = topList 8 (List.ofFn (raw x 0)) := by
    rw [← topList_perm (sort8_perm (raw x 0))]
    refine (topList_eq_self ?_ (by rw [List.length_ofFn])).symm
    rw [List.pairwise_ofFn]
    exact fun i j hij => sort8_antitone _ hij.le
  rw [top8, foldl_merge8_spec x _ (group mm x 0) _ (sort8_antitone _) h0]
  exact congrArg (topList 8) (List.ofFn_mul' (m := 8) (n := 8) x).symm

/-- Result `k` of the network is the entry that any descending arrangement of the sixty-four has at place `k`. -/
theorem top8_of_sorted (x : Fin 64 → α) (σ : Fin 64 → Fin 64) (hσ : Function.Injective σ) (hd : Antitone (x ∘ σ)) (k : Fin 8) :
    top8 mm x k = x (σ ⟨k.val, by omega⟩) := by
  have hb : Function.Bijective σ := Finite.injective_iff_bijective.mp hσ
  have hp : (List.ofFn (x ∘ σ)).Perm (List.ofFn x) := Equiv.Perm.ofFn_comp_perm (Equiv.ofBijective σ hb) x
  have e : List.ofFn (top8 mm x) = (List.ofFn (x ∘ σ)).take 8 := by
    rw [ofFn_top8, ← topList_perm hp, topList]
    congr 1
    refine eq_of_perm_of_descending (List.perm_insertionSort _ _) (List.pairwise_insertionSort _ _) ?_
    rw [List.pairwise_ofFn]
    exact fun i j hij => hd hij.le
  have h := congrArg (fun l => l[k.val]?) e
  rw [List.getElem?_take_of_lt k.isLt, List.getElem?_ofFn, List.getElem?_ofFn, dif_pos k.isLt,
    dif_pos (show k.val < 64 by omega)] at h
  exact Option.some.inj h

end Cert.Proof.Net
-- ==== Proof.Select.lean ====
/-
  One token of the kernel over the extended reals: the eight winners are the eight greatest logits in order
  (`laneTop_value`), each winner's expert holds the winning logit (`laneTop_holder`), and the kernel's softmax of eight
  values, the first of them real, is each exponential over the sum of the eight (`softGate_eq`).
-/
module

public import proofs.«01_k».proof.Proof.Lane
public import proofs.«01_k».proof.Proof.TopEight
public import Idealize.ShloMosaic.PureOps.Ideal.Laws
public import Idealize.ShloMosaic.Lib.IdealHost

@[expose] public section

noncomputable section

namespace Cert.Proof.Select

open Idealize.ShloMosaic Cert.Proof.Trip Cert.Proof.Net

/-- "At least" of the extended reals, as the comparison's word, selects. -/
theorem select_oge {α : Type} (p q : Ideal .f32) (a b : α) :
    Scalar.select (FloatOps.cmpf .oge p q) a b = if (q : EReal) ≤ p then a else b := by
  rw [Ideal.cmpf_def]
  show Scalar.select (BitVec.ofBool (decide ((q : EReal) ≤ p))) a b = _
  by_cases h : (q : EReal) ≤ p
  · rw [if_pos h, decide_eq_true h]; rfl
  · rw [if_neg h, decide_eq_false h]; rfl

/-- On the logits the exchange puts the greater first. -/
theorem scx_fst (p q : PS Ideal) : mm (p.1 : EReal) q.1 = ((scx p q).1.1, (scx p q).2.1) := by
  simp only [scx, select_oge, mm]
  by_cases h : (q.1 : EReal) ≤ p.1
  · rw [if_pos h, if_pos h, max_eq_left h, min_eq_right h]
  · rw [if_neg h, if_neg h, max_eq_right (not_le.mp h).le, min_eq_left (not_le.mp h).le]

/-- The winners' logits are the network's results on the logits alone. -/
theorem laneTop_fst (col : Fin 64 → EReal) (k : Fin 8) : (laneTop (F := Ideal) col k).1 = top8 mm col k :=
  (congrFun (top8_map (cx := scx (F := Ideal)) (cy := mm) (h := Prod.fst) scx_fst (laneEntries (F := Ideal) col)) k).symm

/-- Winner `k`'s logit is the one at place `k` of any descending arrangement of the token's logits. -/
theorem laneTop_value (col : Fin 64 → EReal) (σ : Fin 64 → Fin 64) (hσ : Function.Injective σ) (hd : Antitone (col ∘ σ))
    (k : Fin 8) : (laneTop (F := Ideal) col k).1 = col (σ ⟨k.val, by omega⟩) :=
  (laneTop_fst col k).trans (top8_of_sorted col σ hσ hd k)

/-- Winner `k` is an expert with that expert's logit. -/
theorem laneTop_holder (col : Fin 64 → EReal) (k : Fin 8) :
    ∃ e : Fin 64, (laneTop (F := Ideal) col k).1 = col e ∧ (laneTop (F := Ideal) col k).2 = BitVec.ofNat 32 e.val := by
  refine top8_pred (cx := scx (F := Ideal)) (P := fun p : PS Ideal => ∃ e : Fin 64, p.1 = col e ∧ p.2 = BitVec.ofNat 32 e.val)
    (fun p q hp hq => ?_) (laneEntries (F := Ideal) col) (fun e => ⟨e, rfl, rfl⟩) k
  simp only [scx, select_oge]
  by_cases h : (q.1 : EReal) ≤ p.1
  · simp only [if_pos h]; exact ⟨hp, hq⟩
  · simp only [if_neg h]; exact ⟨hq, hp⟩

/-- The word of 1.0 is one. -/
theorem one_word : (Scalar.ofBits .f32 0x3F800000#32 : Ideal .f32) = (1 : EReal) := Ideal.ofBits_one_f32

/-- An exponential is at least zero. -/
theorem exp_nonneg (x : EReal) : 0 ≤ Ideal.exp x := by
  induction x with
  | bot => exact le_rfl
  | top => exact le_top
  | coe r => exact EReal.coe_nonneg.mpr (Real.exp_pos r).le

/-- A real number less itself has exponential one. -/
theorem exp_sub_self {x : EReal} (ht : x ≠ ⊤) (hb : x ≠ ⊥) : Ideal.exp (x - x) = 1 := by
  lift x to ℝ using ⟨ht, hb⟩
  rw [← EReal.coe_sub, sub_self]
  show ((Real.exp 0 : ℝ) : EReal) = 1
  rw [Real.exp_zero, EReal.coe_one]

/-- The kernel's softmax of eight values, the first real, is each exponential over the sum of the eight. -/
theorem softGate_eq (v : Fin 8 → EReal) (ht : v 0 ≠ ⊤) (hb : v 0 ≠ ⊥) (k : Fin 8) :
    softGate (F := Ideal) v k = Ideal.div (Ideal.exp (v k - v 0)) (∑ j, Ideal.exp (v j - v 0)) := by
  have hD : (∑ j, Ideal.exp (v j - v 0)) ≠ 0 := by
    refine (lt_of_lt_of_le zero_lt_one ?_).ne'
    rw [← exp_sub_self ht hb]
    exact Finset.single_le_sum (f := fun j => Ideal.exp (v j - v 0)) (fun j _ => exp_nonneg _) (Finset.mem_univ 0)
  have e : softGate (F := Ideal) v k
      = Ideal.exp (v k - v 0) * Ideal.div (Scalar.ofBits .f32 0x3F800000#32 : Ideal .f32) (∑ j, Ideal.exp (v j - v 0)) := by
    rw [Fin.sum_univ_eight]
    rfl
  rw [e, one_word, Ideal.div, if_neg hD, Ideal.div, if_neg hD, one_mul]

end Cert.Proof.Select

end
-- ==== Proof.RefTop.lean ====
/-
  The reference's top-k over the extended reals, read at a token: a descending arrangement of the token's sixty-four
  logits, of which rank `k` is the value at place `k` and the expert standing there (`topK_read`).
-/
module

public import proofs.«01_k».proof.Proof.TopEight
public import Idealize.ShloMosaic.Lib.SortFacts
public import Idealize.ShloMosaic.Lib.Pipeline.Value
public import Idealize.ShloMosaic.Lib.ValueIdx
public import Idealize.ShloMosaic.PureOps.Ideal.Laws

@[expose] public section

noncomputable section

namespace Cert.Proof.RefTop

open Idealize.ShloMosaic Idealize.ShloMosaic.ValueIdx

/-- Moving along the second axis replaces the column. -/
theorem ix2_along {a b : ℕ} (n : Fin a) (e k : Fin b) : (ix2 n e).along 1 k = ix2 n k := by
  funext x
  match x with
  | ⟨0, _⟩ => rfl
  | ⟨1, _⟩ => rfl

/-- The arrangement by which the top-k sorts token `n`'s logits: place `k` holds the logit of expert `order x n k`. -/
def order {N : ℕ} (x : FVec Ideal ⟨2, ![N, 64]⟩ .f32) (n : Fin N) : Fin 64 → Fin 64 :=
  sortedFrom fun k k' => FloatOps.cmpfTotal .gt (x (ix2 n k)) (x (ix2 n k')) == 1#1

/-- It names every expert once. -/
theorem order_injective {N : ℕ} (x : FVec Ideal ⟨2, ![N, 64]⟩ .f32) (n : Fin N) : Function.Injective (order x n) :=
  sortedFrom_injective _

/-- "Greater" of the extended reals, as the comparison's word. -/
theorem gt_eq (a b : Ideal .f32) : (FloatOps.cmpfTotal .gt a b == 1#1) = decide ((b : EReal) < a) := by
  rw [Ideal.cmpfTotal_def]
  show (BitVec.ofBool (decide ((b : EReal) < a)) == 1#1) = _
  cases decide ((b : EReal) < a) <;> rfl

/-- The logits in that arrangement descend. -/
theorem order_antitone {N : ℕ} (x : FVec Ideal ⟨2, ![N, 64]⟩ .f32) (n : Fin N) :
    Antitone ((fun e => (x (ix2 n e) : EReal)) ∘ order x n) := by
  intro i j hij
  rcases hij.eq_or_lt with rfl | hlt
  · exact le_rfl
  have h := sortedFrom_noInversion (fun k k' => FloatOps.cmpfTotal .gt (x (ix2 n k)) (x (ix2 n k')) == 1#1) _
    (fun a b hab => ?_) (fun a b hab => hab) (fun a b c hab hbc => ?_) i j hlt
  · rw [gt_eq, decide_eq_false_iff_not, not_lt] at h
    exact h
  · rw [gt_eq, decide_eq_true_eq] at hab
    rw [gt_eq, decide_eq_false_iff_not, not_lt]
    exact hab.le
  · rw [gt_eq, decide_eq_false_iff_not, not_lt] at hab hbc ⊢
    exact hab.trans hbc

variable {N : ℕ} (x : FVec Ideal ⟨2, ![N, 64]⟩ .f32) (h : (⟨2, ![N, 64]⟩ : Shape).Slices (fun _ => 0) ⟨2, ![N, 8]⟩)

/-- Column `k` of the first eight is column `k`. -/
theorem slice_col {α : Type} (y : (⟨2, ![N, 64]⟩ : Shape).Idx → α) (n : Fin N) (k : Fin 8) :
    extractStridedSlice ⟨2, ![N, 8]⟩ (fun _ => 0) y h (ix2 n k) = y (ix2 n ⟨k.val, by omega⟩) :=
  extractStridedSlice_apply _ _ h _ _ fun a => match a with
    | ⟨0, _⟩ => (Nat.zero_add _).symm
    | ⟨1, _⟩ => (Nat.zero_add _).symm

/-- The sort of the logits with their experts, read at token `n` and place `e`. -/
theorem sort2_read {β : Type} (y : (⟨2, ![N, 64]⟩ : Shape).Idx → β) (n : Fin N) (e : Fin 64) :
    (Host.sort2 ⟨2, ![N, 64]⟩ 1 (fun l r => FloatOps.cmpfTotal .gt l.1 r.1) x y).1 (ix2 n e) = x (ix2 n (order x n e))
      ∧ (Host.sort2 ⟨2, ![N, 64]⟩ 1 (fun l r => FloatOps.cmpfTotal .gt l.1 r.1) x y).2 (ix2 n e) = y (ix2 n (order x n e)) := by
  have hd : 1 < (⟨2, ![N, 64]⟩ : Shape).rank := Nat.lt_succ_self 1
  have e1 : ∀ k : Fin 64, (ix2 n e : (⟨2, ![N, 64]⟩ : Shape).Idx).along ⟨1, hd⟩ k = ix2 n k := ix2_along n e
  have e2 : sortedFrom (fun k k' : Fin 64 => FloatOps.cmpfTotal .gt (x ((ix2 n e).along ⟨1, hd⟩ k)) (x ((ix2 n e).along ⟨1, hd⟩ k')) == 1#1)
      = order x n := by
    unfold order
    congr 1
    funext k k'
    rw [e1, e1]
  unfold Host.sort2
  simp only [dif_pos hd]
  constructor
  · exact (congrArg x (e1 _)).trans (congrArg (fun σ => x (ix2 n (σ e))) e2)
  · exact (congrArg y (e1 _)).trans (congrArg (fun σ => y (ix2 n (σ e))) e2)

/-- The experts beside the logits. -/
def cols : IVec ⟨2, ![N, 64]⟩ 32 := fun i => BitVec.ofNat 32 (i 1).val

/-- Rank `k` of token `n` is the logit at place `k` of the arrangement. -/
theorem topK_value (n : Fin N) (k : Fin 8) :
    (Host.topK ⟨2, ![N, 8]⟩ 1 (FloatOps.cmpfTotal .gt) x h).1 (ix2 n k) = x (ix2 n (order x n ⟨k.val, by omega⟩)) := by
  exact (slice_col h (Host.sort2 ⟨2, ![N, 64]⟩ 1 (fun l r => FloatOps.cmpfTotal .gt l.1 r.1) x cols).1 n k).trans
    (sort2_read x cols n _).1

/-- Its expert is the one standing there. -/
theorem topK_index (n : Fin N) (k : Fin 8) :
    (Host.topK ⟨2, ![N, 8]⟩ 1 (FloatOps.cmpfTotal .gt) x h).2 (ix2 n k) = BitVec.ofNat 32 (order x n ⟨k.val, by omega⟩).val := by
  exact (slice_col h (Host.sort2 ⟨2, ![N, 64]⟩ 1 (fun l r => FloatOps.cmpfTotal .gt l.1 r.1) x cols).2 n k).trans
    (sort2_read x cols n _).2

end Cert.Proof.RefTop

end
-- ==== Proof.RefRead.lean ====
/-
  The reference over the extended reals, read at token `n` and rank `k`: the logit at place `k` of the top-k's
  arrangement of the token's logits (`values_apply`), the expert standing there (`indices_apply`), and the softmax of
  the eight values (`gates_apply`): the greatest of them is the first, so each exponential is of a value less the first.
-/
module

public import proofs.«01_k».proof.Proof.RefTop
public import proofs.«01_k».proof.Proof.Gen.ReferenceIdeal.Read

@[expose] public section

noncomputable section

namespace Cert.Proof.RefRead

open Cert.ReferenceIdeal Cert.ReferenceIdeal.Gen Cert.ReferenceIdeal.Read Cert.Proof.RefTop
open Idealize.ShloMosaic
open Idealize.ShloMosaic.ValueIdx (ix1 ix2)

variable (X : FVec Ideal S32768x4096 .f32) (W : FVec Ideal S64x4096 .f32) (B : FVec Ideal S64 .f32)

/-- The arrangement of token `n`'s logits. -/
abbrev arr (n : Fin 32768) : Fin 64 → Fin 64 := order (N := 32768) (val_main_v4 (F := Ideal) X W B) n

/-- The `k`-th greatest logit of token `n`. -/
abbrev kth (n : Fin 32768) (k : Fin 8) : EReal := val_main_v4 (F := Ideal) X W B (ix2 n (arr X W B n ⟨k.val, by omega⟩))

theorem values_apply (n : Fin 32768) (k : Fin 8) : val_main_values (F := Ideal) X W B (ix2 n k) = kth X W B n k :=
  topK_value (N := 32768) (val_main_v4 (F := Ideal) X W B) _ n k

theorem indices_apply (n : Fin 32768) (k : Fin 8) :
    val_main_indices (F := Ideal) X W B (ix2 n k) = BitVec.ofNat 32 (arr X W B n ⟨k.val, by omega⟩).val :=
  topK_index (N := 32768) (val_main_v4 (F := Ideal) X W B) _ n k

/-- The word of −∞ is the least extended real. -/
theorem bot_word : Ideal.ofBits .f32 0xFF800000#32 = ⊥ := by simp [Ideal.ofBits, Ideal.ieee]

/-- The greatest of the eight values is the first. -/
theorem max_apply (n : Fin 32768) : val_main_v5 (F := Ideal) X W B (ix1 n) = kth X W B n 0 := by
  have h : S32768x8.Reduces [1] S32768 := by decide
  have lift_eq : ∀ k : Fin 8, h.lift (ix1 n) k = ix2 n k := fun k => funext fun a => Fin.ext (by
    match a with
    | ⟨0, _⟩ => rfl
    | ⟨1, _⟩ => rfl)
  have e : val_main_v5 (F := Ideal) X W B (ix1 n)
      = (Finset.univ : Finset (Fin 8)).fold (max : EReal → EReal → EReal) ⊥ (fun k => kth X W B n k) := by
    unfold val_main_v5
    rw [Host.reduce_eq_fold_single _ _ _ _ h]
    rw [val_main_cst_apply, Ideal.ofBits_def, bot_word]
    refine congrArg (fun f => Finset.fold (max : EReal → EReal → EReal) ⊥ f Finset.univ) (funext fun k => ?_)
    exact (congrArg (val_main_values (F := Ideal) X W B) (lift_eq k)).trans (values_apply X W B n k)
  rw [e]
  refine le_antisymm ((Finset.fold_max_le _).mpr ⟨bot_le, fun k _ => ?_⟩) ((Finset.le_fold_max _).mpr (Or.inr ⟨0, Finset.mem_univ _, le_rfl⟩))
  exact order_antitone (N := 32768) (val_main_v4 (F := Ideal) X W B) n (Fin.mk_le_mk.mpr (Nat.zero_le _))

theorem shift_apply (n : Fin 32768) (k : Fin 8) : val_main_v9 (F := Ideal) X W B (ix2 n k) = kth X W B n 0 := by
  rw [val_main_v9_apply, val_main_v8_apply, val_main_v7_apply, val_main_v6_apply, val_main_cst_0_apply, Ideal.ofBits_def, bot_word]
  have e : idx_main_v8 (idx_main_v9 (ix2 n k)) = ix1 n := funext fun a => Fin.ext (by match a with | ⟨0, _⟩ => rfl)
  rw [e, max_apply]
  exact max_eq_right bot_le

theorem expo_apply (n : Fin 32768) (k : Fin 8) :
    val_main_v11 (F := Ideal) X W B (ix2 n k) = Ideal.exp (kth X W B n k - kth X W B n 0) := by
  rw [val_main_v11_apply, val_main_v10_apply, shift_apply, values_apply]
  rfl

/-- The first result at token `n` and rank `k`: the exponential of the `k`-th greatest logit less the greatest, over the
    sum of the eight. -/
theorem gates_apply (n : Fin 32768) (k : Fin 8) :
    val_main_v15 (F := Ideal) X W B (ix2 n k)
      = Ideal.div (Ideal.exp (kth X W B n k - kth X W B n 0)) (∑ j, Ideal.exp (kth X W B n j - kth X W B n 0)) := by
  have e : idx_main_v13 (idx_main_v14 (ix2 n k)) = ix1 n := funext fun a => Fin.ext (by match a with | ⟨0, _⟩ => rfl)
  have e' : ∀ j : Fin 8, idx_main_v12 (ix1 n) j = ix2 n j := fun j => funext fun a => Fin.ext (by
    match a with
    | ⟨0, _⟩ => rfl
    | ⟨1, _⟩ => rfl)
  rw [val_main_v15_apply, val_main_v14_apply, val_main_v13_apply, e, val_main_v12_apply, val_main_cst_1_apply, Ideal.ofBits_def,
    Ideal.ofBits_zero_f32, zero_add, expo_apply, Ideal.hostDivf_def]
  exact congrArg (Ideal.div _) (Finset.sum_congr rfl fun j _ => by rw [e', expo_apply])

end Cert.Proof.RefRead

end
-- ==== Proof.Untied.lean ====
/-
  The mask `untied`, read at token `n` and rank `k`: where its first array is set the token's greatest logit is finite
  (`finite_of_mask`), and where its second is set only one expert's logit is the `k`-th greatest (`unique_of_mask`).
-/
module

public import proofs.«01_k».proof.Proof.RefRead
public import proofs.«01_k».proof.Proof.Gen.On_untied
public import Idealize.ShloMosaic.Lib.IndicatorCount

@[expose] public section

noncomputable section

namespace Cert.Proof.RefRead

open Cert.On_untied Cert.On_untied.Facts
open Cert.ReferenceIdeal.Read (val_main_v4 val_main_values)
open Idealize.ShloMosaic
open Idealize.ShloMosaic.ValueIdx (ix1 ix2)

variable (X : FVec Ideal S32768x4096 .f32) (W : FVec Ideal S64x4096 .f32) (B : FVec Ideal S64 .f32)

local instance : Cert.On_untied.Facts := Cert.On_untied.Gen.facts

/-- The logits, as the mask computes them. -/
abbrev lgs : FVec Ideal S32768x64 .f32 := val_main_v4 (F := Ideal) X W B

/-- The eight greatest of each token's, likewise. -/
abbrev vals : FVec Ideal S32768x8 .f32 := val_main_values (F := Ideal) X W B

/-- The word of +∞ is the greatest extended real. -/
theorem top_word : Ideal.ofBits .f32 0x7F800000#32 = ⊤ := by simp [Ideal.ofBits, Ideal.ieee]

/-- The mask's first array compares the greatest logit's absolute value with +∞. -/
theorem mask_fst (n : Fin 32768) (k : Fin 8) :
    (Cert.On_untied.fn (F := Ideal) X W B).1 (ix2 n k)
      = BitVec.ofBool (decide (max (kth X W B n 0) (-kth X W B n 0) < ⊤)) := by
  show broadcastInDim S32768x8 ![0, 1] bcast_S32768x1_S32768x8_0_1
    (cmpf .olt (Host.absf (extractStridedSlice S32768x1 ![0, 0] (vals X W B) slices_S32768x8_S32768x1_0_0))
      (broadcastInDim S32768x1 ![] bcast_S_S32768x1 (constant S_ .f32 0x7F800000#32 : FVec Ideal S_ .f32))) (ix2 n k) = _
  refine (broadcastInDim_apply _ bcast_S32768x1_S32768x8_0_1 _ (ix2 n k) (ix2 n 0) fun a => match a with
    | ⟨0, _⟩ => by show n.val = if (32768 : ℕ) = 1 then 0 else n.val; rw [if_neg (by decide)]
    | ⟨1, _⟩ => by show 0 = if (1 : ℕ) = 1 then 0 else k.val; rw [if_pos rfl]).trans ?_
  have hs : extractStridedSlice S32768x1 ![0, 0] (vals X W B) slices_S32768x8_S32768x1_0_0 (ix2 n 0) = kth X W B n 0 :=
    (extractStridedSlice_apply _ _ slices_S32768x8_S32768x1_0_0 (ix2 n 0) (ix2 n 0) fun a => match a with
      | ⟨0, _⟩ => by show n.val = 0 + n.val; omega
      | ⟨1, _⟩ => rfl).trans (values_apply X W B n 0)
  show FloatOps.cmpf .olt (FloatOps.absf (extractStridedSlice S32768x1 ![0, 0] (vals X W B) slices_S32768x8_S32768x1_0_0 (ix2 n 0)))
    (FloatOps.ofBits .f32 0x7F800000#32) = _
  rw [hs, Ideal.absf_def, Ideal.ofBits_def, top_word, Ideal.cmpf_def]
  rfl

/-- Where the mask's first array is set, the token's greatest logit is finite. -/
theorem finite_of_mask (n : Fin 32768) (k : Fin 8) (h : (Cert.On_untied.fn (F := Ideal) X W B).1 (ix2 n k) = 1#1) :
    kth X W B n 0 ≠ ⊤ ∧ kth X W B n 0 ≠ ⊥ := by
  rw [mask_fst] at h
  have h : max (kth X W B n 0) (-kth X W B n 0) < ⊤ := by
    by_contra hn
    rw [decide_eq_false hn] at h
    exact absurd h (by decide)
  refine ⟨fun e => ?_, fun e => ?_⟩
  · rw [e] at h; simp at h
  · rw [e] at h; simp at h

/-- Whether an expert's logit is the value of a rank. -/
def held : IVec S32768x8x64 1 := cmpf .oeq
  (broadcastInDim S32768x8x64 ![0, 1, 2] bcast_S32768x1x64_S32768x8x64_0_1_2
    (broadcastInDim S32768x1x64 ![0, 2] bcast_S32768x64_S32768x1x64_0_2 (lgs X W B)))
  (broadcastInDim S32768x8x64 ![0, 1, 2] bcast_S32768x8x1_S32768x8x64_0_1_2
    (broadcastInDim S32768x8x1 ![0, 1] bcast_S32768x8_S32768x8x1_0_1 (vals X W B)))

/-- The mask's second array, from `held`. -/
theorem mask_snd_eq : (Cert.On_untied.fn (F := Ideal) X W B).2 = cmpi .eq
      (Host.reduce IntOp.addi (extui 32 (held X W B) natLt_1_32) (constantI S_ 32 0#32) reducesTo_S32768x8x64_S32768x8_d2 h_S_)
      (broadcastInDim S32768x8 ![] bcast_S_S32768x8 (constantI S_ 32 1#32)) := by
  unfold Cert.On_untied.fn
  dsimp only
  have e : (lgs X W B) = addf (Host.dotGeneral dot_S32768x4096_S4096x64_S32768x64_1_0_0_1_n_n none X (transpose S4096x64 [1, 0] W transposes_S64x4096_S4096x64_1_0))
      (broadcastInDim S32768x64 ![0, 1] bcast_S1x64_S32768x64_0_1 (broadcastInDim S1x64 ![1] bcast_S64_S1x64_1 B)) := rfl
  have e' : vals X W B = (Host.topK S32768x8 1 (FloatOps.cmpfTotal .gt) (lgs X W B) sliceFits_S32768x64_S32768x8).1 := rfl
  rw [← e, ← e']
  unfold held
  rfl

/-- The mask's second array counts the experts whose logit is the `k`-th greatest, and compares the count with one. -/
theorem mask_snd (n : Fin 32768) (k : Fin 8) :
    (Cert.On_untied.fn (F := Ideal) X W B).2 (ix2 n k)
      = IntOp.cmpi .eq (BitVec.ofNat 32 (Finset.univ.filter fun e : Fin 64 => lgs X W B (ix2 n e) = kth X W B n k).card) 1#32 := by
  have hr : S32768x8x64.Reduces [2] S32768x8 := by decide
  have hl : ∀ e : Fin 64, held X W B (hr.lift (ix2 n k) e) = BitVec.ofBool (decide (lgs X W B (ix2 n e) = kth X W B n k)) := by
    intro e
    have h1 : broadcastInDim S32768x8x64 ![0, 1, 2] bcast_S32768x1x64_S32768x8x64_0_1_2
        (broadcastInDim S32768x1x64 ![0, 2] bcast_S32768x64_S32768x1x64_0_2 (lgs X W B)) (hr.lift (ix2 n k) e)
        = lgs X W B (ix2 n e) :=
      (broadcastInDim_apply _ bcast_S32768x1x64_S32768x8x64_0_1_2 _ (hr.lift (ix2 n k) e)
        ((fun | ⟨0, _⟩ => n | ⟨1, _⟩ => (0 : Fin 1) | ⟨2, _⟩ => e) : S32768x1x64.Idx) fun a => match a with
        | ⟨0, _⟩ => by show n.val = if (32768 : ℕ) = 1 then 0 else n.val; rw [if_neg (by decide)]
        | ⟨1, _⟩ => by show 0 = if (1 : ℕ) = 1 then 0 else k.val; rw [if_pos rfl]
        | ⟨2, _⟩ => by show e.val = if (64 : ℕ) = 1 then 0 else e.val; rw [if_neg (by decide)]).trans
      (broadcastInDim_apply _ bcast_S32768x64_S32768x1x64_0_2 _ _ (ix2 n e) fun a => match a with
        | ⟨0, _⟩ => by show n.val = if (32768 : ℕ) = 1 then 0 else n.val; rw [if_neg (by decide)]
        | ⟨1, _⟩ => by show e.val = if (64 : ℕ) = 1 then 0 else e.val; rw [if_neg (by decide)])
    have h2 : broadcastInDim S32768x8x64 ![0, 1, 2] bcast_S32768x8x1_S32768x8x64_0_1_2
        (broadcastInDim S32768x8x1 ![0, 1] bcast_S32768x8_S32768x8x1_0_1 (vals X W B)) (hr.lift (ix2 n k) e)
        = kth X W B n k :=
      (broadcastInDim_apply _ bcast_S32768x8x1_S32768x8x64_0_1_2 _ (hr.lift (ix2 n k) e)
        ((fun | ⟨0, _⟩ => n | ⟨1, _⟩ => k | ⟨2, _⟩ => (0 : Fin 1)) : S32768x8x1.Idx) fun a => match a with
        | ⟨0, _⟩ => by show n.val = if (32768 : ℕ) = 1 then 0 else n.val; rw [if_neg (by decide)]
        | ⟨1, _⟩ => by show k.val = if (8 : ℕ) = 1 then 0 else k.val; rw [if_neg (by decide)]
        | ⟨2, _⟩ => by show 0 = if (1 : ℕ) = 1 then 0 else e.val; rw [if_pos rfl]).trans
      ((broadcastInDim_apply _ bcast_S32768x8_S32768x8x1_0_1 _ _ (ix2 n k) fun a => match a with
        | ⟨0, _⟩ => by show n.val = if (32768 : ℕ) = 1 then 0 else n.val; rw [if_neg (by decide)]
        | ⟨1, _⟩ => by show k.val = if (8 : ℕ) = 1 then 0 else k.val; rw [if_neg (by decide)]).trans (values_apply X W B n k))
    show FloatOps.cmpf .oeq (broadcastInDim S32768x8x64 _ _ _ (hr.lift (ix2 n k) e)) (broadcastInDim S32768x8x64 _ _ _ (hr.lift (ix2 n k) e)) = _
    rw [h1, h2, Ideal.cmpf_def]
    rfl
  have hcmp : ∀ u v : IVec S32768x8 32, cmpi .eq u v (ix2 n k) = IntOp.cmpi .eq (u (ix2 n k)) (v (ix2 n k)) := fun _ _ => rfl
  have hone : broadcastInDim S32768x8 ![] bcast_S_S32768x8 (constantI S_ 32 1#32) (ix2 n k) = 1#32 := rfl
  rw [mask_snd_eq, hcmp, hone, Host.reduce_eq_fold_single _ _ _ _ hr]
  refine congrArg (fun v => IntOp.cmpi .eq v 1#32) ?_
  refine (IndicatorCount.fold_addi_setWidth_eq_card (fun e : Fin 64 => held X W B (hr.lift (ix2 n k) e)) Finset.univ).trans ?_
  refine congrArg (fun s : Finset (Fin 64) => BitVec.ofNat 32 s.card) (Finset.filter_congr fun e _ => ?_)
  rw [hl]
  by_cases he : lgs X W B (ix2 n e) = kth X W B n k
  · simp [he]
  · simp [he]

/-- Where the mask's second array is set, the experts whose logit is the `k`-th greatest are one. -/
theorem unique_of_mask (n : Fin 32768) (k : Fin 8) (h : (Cert.On_untied.fn (F := Ideal) X W B).2 (ix2 n k) = 1#1) (e e' : Fin 64)
    (he : lgs X W B (ix2 n e) = kth X W B n k) (he' : lgs X W B (ix2 n e') = kth X W B n k) : e = e' := by
  rw [mask_snd] at h
  have hle : (Finset.univ.filter fun e : Fin 64 => lgs X W B (ix2 n e) = kth X W B n k).card ≤ 64 :=
    (Finset.card_le_univ _).trans_eq (Fintype.card_fin 64)
  have h1 : (Finset.univ.filter fun e : Fin 64 => lgs X W B (ix2 n e) = kth X W B n k).card ≤ 1 := by
    generalize (Finset.univ.filter fun e : Fin 64 => lgs X W B (ix2 n e) = kth X W B n k).card = c at h hle
    by_contra hc
    have hne : (BitVec.ofNat 32 c == 1#32) = false := by
      rw [beq_eq_false_iff_ne]
      intro hb
      have := congrArg BitVec.toNat hb
      simp only [BitVec.toNat_ofNat] at this
      omega
    have h : BitVec.ofBool (BitVec.ofNat 32 c == 1#32) = 1#1 := h
    rw [hne] at h
    exact absurd h (by decide)
  exact Finset.card_le_one.mp h1 e (Finset.mem_filter.mpr ⟨Finset.mem_univ _, he⟩) e' (Finset.mem_filter.mpr ⟨Finset.mem_univ _, he'⟩)

end Cert.Proof.RefRead

end
-- ==== Proof.Equation.lean ====
/-
  The kernel's results are the reference's over the extended reals. Both take the eight greatest of a token's logits; the
  gates agree where the greatest is finite, the experts at each rank whose logit only one expert has.
-/
module

public import proofs.«01_k».proof.Defs
public import proofs.«01_k».proof.Proof.Launch
public import proofs.«01_k».proof.Proof.Results
public import proofs.«01_k».proof.Proof.Select
public import proofs.«01_k».proof.Proof.Untied
public import proofs.«01_k».proof.Proof.Gen.ReferenceIdeal.Run

@[expose] public section

noncomputable section

namespace Cert.Proof.K

open Idealize.ShloMosaic Idealize.SL.Sem Cert.Proof.Trip
open Cert.ReferenceIdeal.Read (val_main_v4 val_main_v15 val_main_indices)
open Cert.Proof.RefRead (kth arr)
open Idealize.ShloMosaic.ValueIdx (ix1 ix2 eq_ix2)

variable (X : FVec Ideal Cert.ReferenceIdeal.S32768x4096 .f32) (W : FVec Ideal Cert.ReferenceIdeal.S64x4096 .f32)
  (B : FVec Ideal Cert.ReferenceIdeal.S64 .f32)

/-- The reference's logits are the kernel's. -/
theorem score_eq (n : Fin 32768) : score X W B n = fun e => val_main_v4 (F := Ideal) X W B (ix2 n e) :=
  funext fun e => (val_main_v4_score X W B n e).symm

/-- The lane's value of rank `k` is the `k`-th greatest logit. -/
theorem lane_value (n : Fin 32768) (k : Fin 8) : (laneTop (F := Ideal) (score X W B n) k).1 = kth X W B n k := by
  rw [score_eq]
  exact Select.laneTop_value _ (arr X W B n) (RefTop.order_injective (N := 32768) _ n) (RefTop.order_antitone (N := 32768) _ n) k

/-- Where the greatest logit is finite, the lane's gate is the reference's. -/
theorem gate_eq (n : Fin 32768) (k : Fin 8) (h : (Cert.On_untied.fn (F := Ideal) X W B).1 (ix2 n k) = 1#1) :
    val_main_v15 (F := Ideal) X W B (ix2 n k) = laneGate (F := Ideal) (score X W B n) k := by
  obtain ⟨ht, hb⟩ := RefRead.finite_of_mask X W B n k h
  have hv : (fun j => (laneTop (F := Ideal) (score X W B n) j).1) = kth X W B n := funext fun j => lane_value X W B n j
  unfold laneGate
  rw [hv, RefRead.gates_apply]
  exact (Select.softGate_eq (kth X W B n) ht hb k).symm

/-- At a rank whose logit only one expert has, the lane's expert is the reference's. -/
theorem expert_eq (n : Fin 32768) (k : Fin 8) (h : (Cert.On_untied.fn (F := Ideal) X W B).2 (ix2 n k) = 1#1) :
    val_main_indices (F := Ideal) X W B (ix2 n k) = laneIdx (F := Ideal) (score X W B n) k := by
  obtain ⟨e, hv, hi⟩ := Select.laneTop_holder (score X W B n) k
  have he : val_main_v4 (F := Ideal) X W B (ix2 n e) = kth X W B n k :=
    ((val_main_v4_score X W B n e).trans hv.symm).trans (lane_value X W B n k)
  rw [RefRead.indices_apply, RefRead.unique_of_mask X W B n k h _ e rfl he]
  exact hi.symm

/-- The value claim. -/
theorem algebraic : Cert.algebraic_KernelIdeal_ReferenceIdeal_on_untied := by
  intro m g m' g' _ ha
  refine ⟨fun c => gatesRes (F := Ideal) m c, fun c => idxsRes (F := Ideal) m c, ?_, ?_⟩
  · refine (θ_run Cert.KernelIdeal.defs _ _).mono (fun r h c => ?_) (run_main (F := Ideal) m g)
    exact ⟨fun i _ => congrFun (h.1 c).2.1 i, fun i _ => congrFun (h.1 c).2.2 i, (h.1 c).1⟩
  · refine (θ_run Cert.ReferenceIdeal.defs _ _).mono (fun r h c => ⟨fun i hi => ?_, fun i hi => ?_, (h c).2.2⟩)
      (Cert.ReferenceIdeal.Value.run (F := Ideal) m' g')
    · rw [(h c).1, Cert.ReferenceIdeal.Read.val_main_v15_eq, (ha c).1, (ha c).2.1, (ha c).2.2]
      obtain ⟨n, k, rfl⟩ : ∃ n k, i = ix2 n k := ⟨_, _, eq_ix2 i⟩
      exact (gate_eq _ _ _ n k hi).trans (gatesRes_apply m c n k).symm
    · rw [(h c).2.1, Cert.ReferenceIdeal.Read.val_main_indices_eq, (ha c).1, (ha c).2.1, (ha c).2.2]
      obtain ⟨n, k, rfl⟩ : ∃ n k, i = ix2 n k := ⟨_, _, eq_ix2 i⟩
      exact (expert_eq _ _ _ n k hi).trans (idxsRes_apply m c n k).symm

end Cert.Proof.K

end
-- ==== Proof.lean ====
/-
  The proof of the claim: the three programs' runs, the kernel's idealization, and the equality of its results with the
  reference's.
-/
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_untied

@[expose] public section

noncomputable section

namespace Cert.Proof

/-- The claim. -/
theorem claim : Cert.Claim :=
  ⟨Cert.Kernel.Gen.facts, Cert.KernelIdeal.Gen.facts, Cert.ReferenceIdeal.Gen.facts, Cert.On_untied.Gen.facts,
    K.frame_kernel, K.frame_kernelIdeal, K.frame_referenceIdeal, trivial, K.algebraic⟩

end Cert.Proof

end
